-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x32x16x16 : Shape := ⟨4, ![2, 32, 16, 16]⟩
abbrev S8192x32 : Shape := ⟨2, ![8192, 32]⟩
abbrev S2x16x16x32 : Shape := ⟨4, ![2, 16, 16, 32]⟩
abbrev S2x8192 : Shape := ⟨2, ![2, 8192]⟩
abbrev S2x32x256 : Shape := ⟨3, ![2, 32, 256]⟩
abbrev S2x256x32 : Shape := ⟨3, ![2, 256, 32]⟩
abbrev S32x8192 : Shape := ⟨2, ![32, 8192]⟩
abbrev S2x256x1 : Shape := ⟨3, ![2, 256, 1]⟩
abbrev S1x1 : Shape := ⟨2, ![1, 1]⟩
abbrev S1x256x32 : Shape := ⟨3, ![1, 256, 32]⟩
abbrev S256x32 : Shape := ⟨2, ![256, 32]⟩
abbrev S256x1 : Shape := ⟨2, ![256, 1]⟩
abbrev S1x512 : Shape := ⟨2, ![1, 512]⟩
abbrev S512 : Shape := ⟨1, ![512]⟩
abbrev S256 : Shape := ⟨1, ![256]⟩
abbrev S256x512 : Shape := ⟨2, ![256, 512]⟩
abbrev S1x256x1 : Shape := ⟨3, ![1, 256, 1]⟩
abbrev S256x8192 : Shape := ⟨2, ![256, 8192]⟩
abbrev S1 : Shape := ⟨1, ![1]⟩
abbrev S1x1x1 : Shape := ⟨3, ![1, 1, 1]⟩
abbrev S2x16x16 : Shape := ⟨3, ![2, 16, 16]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S2x32x16x16, .f32⟩
  | .hbm, ⟨1, _⟩ => ⟨S8192x32, .f32⟩
  | .hbm, ⟨2, _⟩ => ⟨S2x16x16x32, .f32⟩
  | .hbm, ⟨3, _⟩ => ⟨S2x8192, .f32⟩
  | .hbm, ⟨4, _⟩ => ⟨S2x32x256, .f32⟩
  | .hbm, ⟨5, _⟩ => ⟨S2x256x32, .f32⟩
  | .hbm, ⟨6, _⟩ => ⟨S2x256x32, .f32⟩
  | .hbm, ⟨7, _⟩ => ⟨S32x8192, .f32⟩
  | .hbm, ⟨8, _⟩ => ⟨S2x256x32, .f32⟩
  | .hbm, ⟨9, _⟩ => ⟨S2x256x1, .i32⟩
  | .hbm, ⟨10, _⟩ => ⟨S1x1, .f32⟩
  | .hbm, ⟨11, _⟩ => ⟨S2x16x16x32, .f32⟩
  | .hbm, ⟨12, _⟩ => ⟨S2x32x16x16, .f32⟩
  | .hbm, ⟨13, _⟩ => ⟨S2x16x16, .i32⟩
  | .hbm, ⟨14, _⟩ => ⟨S_, .f32⟩
  | .local _ .vmem, ⟨0, _⟩ => ⟨S2x256x32, .f32⟩
  | .local _ .vmem, ⟨1, _⟩ => ⟨S2x256x32, .f32⟩
  | .local _ .vmem, ⟨2, _⟩ => ⟨S32x8192, .f32⟩
  | .local _ .vmem, ⟨3, _⟩ => ⟨S8192x32, .f32⟩
  | .local _ .vmem, ⟨4, _⟩ => ⟨S2x256x32, .f32⟩
  | .local _ .vmem, ⟨5, _⟩ => ⟨S2x256x1, .i32⟩
  | .local _ .vmem, ⟨6, _⟩ => ⟨S1x1, .f32⟩
  | _, _ => ⟨S2x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v6_2 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c16_i32 : BitVec 32 := 16#32
  let v4 : BitVec 32 := Scalar.addi c0_i32_2 c16_i32
  let c1_i32 : BitVec 32 := 1#32
  ⟨c0_i32_2, v4, c1_i32⟩
def k0_off1 (k0_t1 : Fin k0_t1_loop.trips) : Fin 2 → Nat :=
  let c0_49 : Index := 0#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_48 : BitVec 32 := 1#32
  let v66 : BitVec 32 := Scalar.muli v65 c1_i32_48
  let v67 : Index := Scalar.indexCast v66
  ![0, v67.toNat]
def k0_off2 (k0_t1 : Fin k0_t1_loop.trips) : Fin 2 → Nat :=
  let c1_51 : Index := 1#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_50 : BitVec 32 := 1#32
  let v78 : BitVec 32 := Scalar.muli v65 c1_i32_50
  let v79 : Index := Scalar.indexCast v78
  ![1, v79.toNat]
def k0_off3 (k0_t1 : Fin k0_t1_loop.trips) : Fin 2 → Nat :=
  let c2 : Index := 2#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_52 : BitVec 32 := 1#32
  let v91 : BitVec 32 := Scalar.muli v65 c1_i32_52
  let v92 : Index := Scalar.indexCast v91
  ![2, v92.toNat]
def k0_off4 (k0_t1 : Fin k0_t1_loop.trips) : Fin 2 → Nat :=
  let c3 : Index := 3#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_53 : BitVec 32 := 1#32
  let v104 : BitVec 32 := Scalar.muli v65 c1_i32_53
  let v105 : Index := Scalar.indexCast v104
  ![3, v105.toNat]
def k0_off5 (k0_t1 : Fin k0_t1_loop.trips) : Fin 2 → Nat :=
  let c4 : Index := 4#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_54 : BitVec 32 := 1#32
  let v117 : BitVec 32 := Scalar.muli v65 c1_i32_54
  let v118 : Index := Scalar.indexCast v117
  ![4, v118.toNat]
def k0_off6 (k0_t1 : Fin k0_t1_loop.trips) : Fin 2 → Nat :=
  let c5 : Index := 5#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_55 : BitVec 32 := 1#32
  let v130 : BitVec 32 := Scalar.muli v65 c1_i32_55
  let v131 : Index := Scalar.indexCast v130
  ![5, v131.toNat]
def k0_off7 (k0_t1 : Fin k0_t1_loop.trips) : Fin 2 → Nat :=
  let c6 : Index := 6#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_56 : BitVec 32 := 1#32
  let v143 : BitVec 32 := Scalar.muli v65 c1_i32_56
  let v144 : Index := Scalar.indexCast v143
  ![6, v144.toNat]
def k0_off8 (k0_t1 : Fin k0_t1_loop.trips) : Fin 2 → Nat :=
  let c7 : Index := 7#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_57 : BitVec 32 := 1#32
  let v156 : BitVec 32 := Scalar.muli v65 c1_i32_57
  let v157 : Index := Scalar.indexCast v156
  ![7, v157.toNat]
def k0_off9 (k0_t1 : Fin k0_t1_loop.trips) : Fin 2 → Nat :=
  let c8 : Index := 8#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_58 : BitVec 32 := 1#32
  let v169 : BitVec 32 := Scalar.muli v65 c1_i32_58
  let v170 : Index := Scalar.indexCast v169
  ![8, v170.toNat]
def k0_off10 (k0_t1 : Fin k0_t1_loop.trips) : Fin 2 → Nat :=
  let c9 : Index := 9#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_59 : BitVec 32 := 1#32
  let v182 : BitVec 32 := Scalar.muli v65 c1_i32_59
  let v183 : Index := Scalar.indexCast v182
  ![9, v183.toNat]
def k0_off11 (k0_t1 : Fin k0_t1_loop.trips) : Fin 2 → Nat :=
  let c10 : Index := 10#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_60 : BitVec 32 := 1#32
  let v195 : BitVec 32 := Scalar.muli v65 c1_i32_60
  let v196 : Index := Scalar.indexCast v195
  ![10, v196.toNat]
def k0_off12 (k0_t1 : Fin k0_t1_loop.trips) : Fin 2 → Nat :=
  let c11 : Index := 11#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_61 : BitVec 32 := 1#32
  let v208 : BitVec 32 := Scalar.muli v65 c1_i32_61
  let v209 : Index := Scalar.indexCast v208
  ![11, v209.toNat]
def k0_off13 (k0_t1 : Fin k0_t1_loop.trips) : Fin 2 → Nat :=
  let c12 : Index := 12#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_62 : BitVec 32 := 1#32
  let v221 : BitVec 32 := Scalar.muli v65 c1_i32_62
  let v222 : Index := Scalar.indexCast v221
  ![12, v222.toNat]
def k0_off14 (k0_t1 : Fin k0_t1_loop.trips) : Fin 2 → Nat :=
  let c13 : Index := 13#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_63 : BitVec 32 := 1#32
  let v234 : BitVec 32 := Scalar.muli v65 c1_i32_63
  let v235 : Index := Scalar.indexCast v234
  ![13, v235.toNat]
def k0_off15 (k0_t1 : Fin k0_t1_loop.trips) : Fin 2 → Nat :=
  let c14 : Index := 14#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_64 : BitVec 32 := 1#32
  let v247 : BitVec 32 := Scalar.muli v65 c1_i32_64
  let v248 : Index := Scalar.indexCast v247
  ![14, v248.toNat]
def k0_off16 (k0_t1 : Fin k0_t1_loop.trips) : Fin 2 → Nat :=
  let c15 : Index := 15#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_65 : BitVec 32 := 1#32
  let v260 : BitVec 32 := Scalar.muli v65 c1_i32_65
  let v261 : Index := Scalar.indexCast v260
  ![15, v261.toNat]
def k0_off17 (k0_t1 : Fin k0_t1_loop.trips) : Fin 2 → Nat :=
  let c16 : Index := 16#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_66 : BitVec 32 := 1#32
  let v273 : BitVec 32 := Scalar.muli v65 c1_i32_66
  let v274 : Index := Scalar.indexCast v273
  ![16, v274.toNat]
def k0_off18 (k0_t1 : Fin k0_t1_loop.trips) : Fin 2 → Nat :=
  let c17 : Index := 17#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_67 : BitVec 32 := 1#32
  let v286 : BitVec 32 := Scalar.muli v65 c1_i32_67
  let v287 : Index := Scalar.indexCast v286
  ![17, v287.toNat]
def k0_off19 (k0_t1 : Fin k0_t1_loop.trips) : Fin 2 → Nat :=
  let c18 : Index := 18#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_68 : BitVec 32 := 1#32
  let v299 : BitVec 32 := Scalar.muli v65 c1_i32_68
  let v300 : Index := Scalar.indexCast v299
  ![18, v300.toNat]
def k0_off20 (k0_t1 : Fin k0_t1_loop.trips) : Fin 2 → Nat :=
  let c19 : Index := 19#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_69 : BitVec 32 := 1#32
  let v312 : BitVec 32 := Scalar.muli v65 c1_i32_69
  let v313 : Index := Scalar.indexCast v312
  ![19, v313.toNat]
def k0_off21 (k0_t1 : Fin k0_t1_loop.trips) : Fin 2 → Nat :=
  let c20 : Index := 20#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_70 : BitVec 32 := 1#32
  let v325 : BitVec 32 := Scalar.muli v65 c1_i32_70
  let v326 : Index := Scalar.indexCast v325
  ![20, v326.toNat]
def k0_off22 (k0_t1 : Fin k0_t1_loop.trips) : Fin 2 → Nat :=
  let c21 : Index := 21#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_71 : BitVec 32 := 1#32
  let v338 : BitVec 32 := Scalar.muli v65 c1_i32_71
  let v339 : Index := Scalar.indexCast v338
  ![21, v339.toNat]
def k0_off23 (k0_t1 : Fin k0_t1_loop.trips) : Fin 2 → Nat :=
  let c22 : Index := 22#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_72 : BitVec 32 := 1#32
  let v351 : BitVec 32 := Scalar.muli v65 c1_i32_72
  let v352 : Index := Scalar.indexCast v351
  ![22, v352.toNat]
def k0_off24 (k0_t1 : Fin k0_t1_loop.trips) : Fin 2 → Nat :=
  let c23 : Index := 23#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_73 : BitVec 32 := 1#32
  let v364 : BitVec 32 := Scalar.muli v65 c1_i32_73
  let v365 : Index := Scalar.indexCast v364
  ![23, v365.toNat]
def k0_off25 (k0_t1 : Fin k0_t1_loop.trips) : Fin 2 → Nat :=
  let c24 : Index := 24#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_74 : BitVec 32 := 1#32
  let v377 : BitVec 32 := Scalar.muli v65 c1_i32_74
  let v378 : Index := Scalar.indexCast v377
  ![24, v378.toNat]
def k0_off26 (k0_t1 : Fin k0_t1_loop.trips) : Fin 2 → Nat :=
  let c25 : Index := 25#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_75 : BitVec 32 := 1#32
  let v390 : BitVec 32 := Scalar.muli v65 c1_i32_75
  let v391 : Index := Scalar.indexCast v390
  ![25, v391.toNat]
def k0_off27 (k0_t1 : Fin k0_t1_loop.trips) : Fin 2 → Nat :=
  let c26 : Index := 26#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_76 : BitVec 32 := 1#32
  let v403 : BitVec 32 := Scalar.muli v65 c1_i32_76
  let v404 : Index := Scalar.indexCast v403
  ![26, v404.toNat]
def k0_off28 (k0_t1 : Fin k0_t1_loop.trips) : Fin 2 → Nat :=
  let c27 : Index := 27#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_77 : BitVec 32 := 1#32
  let v416 : BitVec 32 := Scalar.muli v65 c1_i32_77
  let v417 : Index := Scalar.indexCast v416
  ![27, v417.toNat]
def k0_off29 (k0_t1 : Fin k0_t1_loop.trips) : Fin 2 → Nat :=
  let c28 : Index := 28#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_78 : BitVec 32 := 1#32
  let v429 : BitVec 32 := Scalar.muli v65 c1_i32_78
  let v430 : Index := Scalar.indexCast v429
  ![28, v430.toNat]
def k0_off30 (k0_t1 : Fin k0_t1_loop.trips) : Fin 2 → Nat :=
  let c29 : Index := 29#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_79 : BitVec 32 := 1#32
  let v442 : BitVec 32 := Scalar.muli v65 c1_i32_79
  let v443 : Index := Scalar.indexCast v442
  ![29, v443.toNat]
def k0_off31 (k0_t1 : Fin k0_t1_loop.trips) : Fin 2 → Nat :=
  let c30 : Index := 30#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_80 : BitVec 32 := 1#32
  let v455 : BitVec 32 := Scalar.muli v65 c1_i32_80
  let v456 : Index := Scalar.indexCast v455
  ![30, v456.toNat]
def k0_off32 (k0_t1 : Fin k0_t1_loop.trips) : Fin 2 → Nat :=
  let c31 : Index := 31#32
  let c0_i32_2 : BitVec 32 := 0#32
  let c1_i32 : BitVec 32 := 1#32
  let arg7 : BitVec 32 := Scf.iv c0_i32_2 c1_i32 k0_t1
  let c512_i32 : BitVec 32 := 512#32
  let v65 : BitVec 32 := Scalar.muli arg7 c512_i32
  let c1_i32_81 : BitVec 32 := 1#32
  let v468 : BitVec 32 := Scalar.muli v65 c1_i32_81
  let v469 : Index := Scalar.indexCast v468
  ![31, v469.toNat]
@[reducible] def k0_t2_loop : Scf.Loop 32 :=
  let c0_i32_25 : BitVec 32 := 0#32
  let c16_i32_26 : BitVec 32 := 16#32
  let v35 : BitVec 32 := Scalar.addi c0_i32_25 c16_i32_26
  let c1_i32_27 : BitVec 32 := 1#32
  ⟨c0_i32_25, v35, c1_i32_27⟩
def k0_off33 (k0_t2 : Fin k0_t2_loop.trips) : Fin 2 → Nat :=
  let c0_49 : Index := 0#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_48 : BitVec 32 := 1#32
  let v66 : BitVec 32 := Scalar.muli v65 c1_i32_48
  let v67 : Index := Scalar.indexCast v66
  ![0, v67.toNat]
def k0_off34 (k0_t2 : Fin k0_t2_loop.trips) : Fin 2 → Nat :=
  let c1_51 : Index := 1#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_50 : BitVec 32 := 1#32
  let v78 : BitVec 32 := Scalar.muli v65 c1_i32_50
  let v79 : Index := Scalar.indexCast v78
  ![1, v79.toNat]
def k0_off35 (k0_t2 : Fin k0_t2_loop.trips) : Fin 2 → Nat :=
  let c2 : Index := 2#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_52 : BitVec 32 := 1#32
  let v91 : BitVec 32 := Scalar.muli v65 c1_i32_52
  let v92 : Index := Scalar.indexCast v91
  ![2, v92.toNat]
def k0_off36 (k0_t2 : Fin k0_t2_loop.trips) : Fin 2 → Nat :=
  let c3 : Index := 3#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_53 : BitVec 32 := 1#32
  let v104 : BitVec 32 := Scalar.muli v65 c1_i32_53
  let v105 : Index := Scalar.indexCast v104
  ![3, v105.toNat]
def k0_off37 (k0_t2 : Fin k0_t2_loop.trips) : Fin 2 → Nat :=
  let c4 : Index := 4#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_54 : BitVec 32 := 1#32
  let v117 : BitVec 32 := Scalar.muli v65 c1_i32_54
  let v118 : Index := Scalar.indexCast v117
  ![4, v118.toNat]
def k0_off38 (k0_t2 : Fin k0_t2_loop.trips) : Fin 2 → Nat :=
  let c5 : Index := 5#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_55 : BitVec 32 := 1#32
  let v130 : BitVec 32 := Scalar.muli v65 c1_i32_55
  let v131 : Index := Scalar.indexCast v130
  ![5, v131.toNat]
def k0_off39 (k0_t2 : Fin k0_t2_loop.trips) : Fin 2 → Nat :=
  let c6 : Index := 6#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_56 : BitVec 32 := 1#32
  let v143 : BitVec 32 := Scalar.muli v65 c1_i32_56
  let v144 : Index := Scalar.indexCast v143
  ![6, v144.toNat]
def k0_off40 (k0_t2 : Fin k0_t2_loop.trips) : Fin 2 → Nat :=
  let c7 : Index := 7#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_57 : BitVec 32 := 1#32
  let v156 : BitVec 32 := Scalar.muli v65 c1_i32_57
  let v157 : Index := Scalar.indexCast v156
  ![7, v157.toNat]
def k0_off41 (k0_t2 : Fin k0_t2_loop.trips) : Fin 2 → Nat :=
  let c8 : Index := 8#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_58 : BitVec 32 := 1#32
  let v169 : BitVec 32 := Scalar.muli v65 c1_i32_58
  let v170 : Index := Scalar.indexCast v169
  ![8, v170.toNat]
def k0_off42 (k0_t2 : Fin k0_t2_loop.trips) : Fin 2 → Nat :=
  let c9 : Index := 9#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_59 : BitVec 32 := 1#32
  let v182 : BitVec 32 := Scalar.muli v65 c1_i32_59
  let v183 : Index := Scalar.indexCast v182
  ![9, v183.toNat]
def k0_off43 (k0_t2 : Fin k0_t2_loop.trips) : Fin 2 → Nat :=
  let c10 : Index := 10#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_60 : BitVec 32 := 1#32
  let v195 : BitVec 32 := Scalar.muli v65 c1_i32_60
  let v196 : Index := Scalar.indexCast v195
  ![10, v196.toNat]
def k0_off44 (k0_t2 : Fin k0_t2_loop.trips) : Fin 2 → Nat :=
  let c11 : Index := 11#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_61 : BitVec 32 := 1#32
  let v208 : BitVec 32 := Scalar.muli v65 c1_i32_61
  let v209 : Index := Scalar.indexCast v208
  ![11, v209.toNat]
def k0_off45 (k0_t2 : Fin k0_t2_loop.trips) : Fin 2 → Nat :=
  let c12 : Index := 12#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_62 : BitVec 32 := 1#32
  let v221 : BitVec 32 := Scalar.muli v65 c1_i32_62
  let v222 : Index := Scalar.indexCast v221
  ![12, v222.toNat]
def k0_off46 (k0_t2 : Fin k0_t2_loop.trips) : Fin 2 → Nat :=
  let c13 : Index := 13#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_63 : BitVec 32 := 1#32
  let v234 : BitVec 32 := Scalar.muli v65 c1_i32_63
  let v235 : Index := Scalar.indexCast v234
  ![13, v235.toNat]
def k0_off47 (k0_t2 : Fin k0_t2_loop.trips) : Fin 2 → Nat :=
  let c14 : Index := 14#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_64 : BitVec 32 := 1#32
  let v247 : BitVec 32 := Scalar.muli v65 c1_i32_64
  let v248 : Index := Scalar.indexCast v247
  ![14, v248.toNat]
def k0_off48 (k0_t2 : Fin k0_t2_loop.trips) : Fin 2 → Nat :=
  let c15 : Index := 15#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_65 : BitVec 32 := 1#32
  let v260 : BitVec 32 := Scalar.muli v65 c1_i32_65
  let v261 : Index := Scalar.indexCast v260
  ![15, v261.toNat]
def k0_off49 (k0_t2 : Fin k0_t2_loop.trips) : Fin 2 → Nat :=
  let c16 : Index := 16#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_66 : BitVec 32 := 1#32
  let v273 : BitVec 32 := Scalar.muli v65 c1_i32_66
  let v274 : Index := Scalar.indexCast v273
  ![16, v274.toNat]
def k0_off50 (k0_t2 : Fin k0_t2_loop.trips) : Fin 2 → Nat :=
  let c17 : Index := 17#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_67 : BitVec 32 := 1#32
  let v286 : BitVec 32 := Scalar.muli v65 c1_i32_67
  let v287 : Index := Scalar.indexCast v286
  ![17, v287.toNat]
def k0_off51 (k0_t2 : Fin k0_t2_loop.trips) : Fin 2 → Nat :=
  let c18 : Index := 18#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_68 : BitVec 32 := 1#32
  let v299 : BitVec 32 := Scalar.muli v65 c1_i32_68
  let v300 : Index := Scalar.indexCast v299
  ![18, v300.toNat]
def k0_off52 (k0_t2 : Fin k0_t2_loop.trips) : Fin 2 → Nat :=
  let c19 : Index := 19#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_69 : BitVec 32 := 1#32
  let v312 : BitVec 32 := Scalar.muli v65 c1_i32_69
  let v313 : Index := Scalar.indexCast v312
  ![19, v313.toNat]
def k0_off53 (k0_t2 : Fin k0_t2_loop.trips) : Fin 2 → Nat :=
  let c20 : Index := 20#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_70 : BitVec 32 := 1#32
  let v325 : BitVec 32 := Scalar.muli v65 c1_i32_70
  let v326 : Index := Scalar.indexCast v325
  ![20, v326.toNat]
def k0_off54 (k0_t2 : Fin k0_t2_loop.trips) : Fin 2 → Nat :=
  let c21 : Index := 21#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_71 : BitVec 32 := 1#32
  let v338 : BitVec 32 := Scalar.muli v65 c1_i32_71
  let v339 : Index := Scalar.indexCast v338
  ![21, v339.toNat]
def k0_off55 (k0_t2 : Fin k0_t2_loop.trips) : Fin 2 → Nat :=
  let c22 : Index := 22#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_72 : BitVec 32 := 1#32
  let v351 : BitVec 32 := Scalar.muli v65 c1_i32_72
  let v352 : Index := Scalar.indexCast v351
  ![22, v352.toNat]
def k0_off56 (k0_t2 : Fin k0_t2_loop.trips) : Fin 2 → Nat :=
  let c23 : Index := 23#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_73 : BitVec 32 := 1#32
  let v364 : BitVec 32 := Scalar.muli v65 c1_i32_73
  let v365 : Index := Scalar.indexCast v364
  ![23, v365.toNat]
def k0_off57 (k0_t2 : Fin k0_t2_loop.trips) : Fin 2 → Nat :=
  let c24 : Index := 24#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_74 : BitVec 32 := 1#32
  let v377 : BitVec 32 := Scalar.muli v65 c1_i32_74
  let v378 : Index := Scalar.indexCast v377
  ![24, v378.toNat]
def k0_off58 (k0_t2 : Fin k0_t2_loop.trips) : Fin 2 → Nat :=
  let c25 : Index := 25#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_75 : BitVec 32 := 1#32
  let v390 : BitVec 32 := Scalar.muli v65 c1_i32_75
  let v391 : Index := Scalar.indexCast v390
  ![25, v391.toNat]
def k0_off59 (k0_t2 : Fin k0_t2_loop.trips) : Fin 2 → Nat :=
  let c26 : Index := 26#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_76 : BitVec 32 := 1#32
  let v403 : BitVec 32 := Scalar.muli v65 c1_i32_76
  let v404 : Index := Scalar.indexCast v403
  ![26, v404.toNat]
def k0_off60 (k0_t2 : Fin k0_t2_loop.trips) : Fin 2 → Nat :=
  let c27 : Index := 27#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_77 : BitVec 32 := 1#32
  let v416 : BitVec 32 := Scalar.muli v65 c1_i32_77
  let v417 : Index := Scalar.indexCast v416
  ![27, v417.toNat]
def k0_off61 (k0_t2 : Fin k0_t2_loop.trips) : Fin 2 → Nat :=
  let c28 : Index := 28#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_78 : BitVec 32 := 1#32
  let v429 : BitVec 32 := Scalar.muli v65 c1_i32_78
  let v430 : Index := Scalar.indexCast v429
  ![28, v430.toNat]
def k0_off62 (k0_t2 : Fin k0_t2_loop.trips) : Fin 2 → Nat :=
  let c29 : Index := 29#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_79 : BitVec 32 := 1#32
  let v442 : BitVec 32 := Scalar.muli v65 c1_i32_79
  let v443 : Index := Scalar.indexCast v442
  ![29, v443.toNat]
def k0_off63 (k0_t2 : Fin k0_t2_loop.trips) : Fin 2 → Nat :=
  let c30 : Index := 30#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_80 : BitVec 32 := 1#32
  let v455 : BitVec 32 := Scalar.muli v65 c1_i32_80
  let v456 : Index := Scalar.indexCast v455
  ![30, v456.toNat]
def k0_off64 (k0_t2 : Fin k0_t2_loop.trips) : Fin 2 → Nat :=
  let c31 : Index := 31#32
  let c0_i32_25 : BitVec 32 := 0#32
  let c1_i32_27 : BitVec 32 := 1#32
  let arg7 : BitVec 32 := Scf.iv c0_i32_25 c1_i32_27 k0_t2
  let c512_i32 : BitVec 32 := 512#32
  let v65 : BitVec 32 := Scalar.muli arg7 c512_i32
  let c1_i32_81 : BitVec 32 := 1#32
  let v468 : BitVec 32 := Scalar.muli v65 c1_i32_81
  let v469 : Index := Scalar.indexCast v468
  ![31, v469.toNat]
abbrev stage0_0 : Fin 1 → Memref sig .tc .vmem S2x256x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S2x32x16x16 : Shape := ⟨4, ![2, 32, 16, 16]⟩
abbrev S8192x32 : Shape := ⟨2, ![8192, 32]⟩
abbrev S2x16x16x32 : Shape := ⟨4, ![2, 16, 16, 32]⟩
abbrev S1x8192x32x1x1 : Shape := ⟨5, ![1, 8192, 32, 1, 1]⟩
abbrev S2x1x32x16x16 : Shape := ⟨5, ![2, 1, 32, 16, 16]⟩
abbrev S2x8192x32x16x16 : Shape := ⟨5, ![2, 8192, 32, 16, 16]⟩
abbrev S_ : Shape := ⟨0, ![]⟩
abbrev S2x8192x16x16 : Shape := ⟨4, ![2, 8192, 16, 16]⟩
abbrev S2x16x16 : Shape := ⟨3, ![2, 16, 16]⟩
abbrev S2x16x16x1 : Shape := ⟨4, ![2, 16, 16, 1]⟩
abbrev S1 : Shape := ⟨1, ![1]⟩
abbrev S1x1x1x1 : Shape := ⟨4, ![1, 1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S2x32x16x16, .f32⟩
  | .hbm, ⟨1, _⟩ => ⟨S8192x32, .f32⟩
  | .hbm, ⟨2, _⟩ => ⟨S2x16x16x32, .f32⟩
  | .hbm, ⟨3, _⟩ => ⟨S1x8192x32x1x1, .f32⟩
  | .hbm, ⟨4, _⟩ => ⟨S2x1x32x16x16, .f32⟩
  | .hbm, ⟨5, _⟩ => ⟨S2x8192x32x16x16, .f32⟩
  | .hbm, ⟨6, _⟩ => ⟨S2x8192x32x16x16, .f32⟩
  | .hbm, ⟨7, _⟩ => ⟨S2x8192x32x16x16, .f32⟩
  | .hbm, ⟨8, _⟩ => ⟨S2x8192x32x16x16, .f32⟩
  | .hbm, ⟨9, _⟩ => ⟨S_, .f32⟩
  | .hbm, ⟨10, _⟩ => ⟨S2x8192x16x16, .f32⟩
  | .hbm, ⟨11, _⟩ => ⟨S2x8192x16x16, .i32⟩
  | .hbm, ⟨12, _⟩ => ⟨S_, .f32⟩
  | .hbm, ⟨13, _⟩ => ⟨S_, .i32⟩
  | .hbm, ⟨14, _⟩ => ⟨S2x16x16, .f32⟩
  | .hbm, ⟨15, _⟩ => ⟨S2x16x16, .i32⟩
  | .hbm, ⟨16, _⟩ => ⟨S_, .i32⟩
  | .hbm, ⟨17, _⟩ => ⟨S2x16x16, .i32⟩
  | .hbm, ⟨18, _⟩ => ⟨S2x16x16, .i1⟩
  | .hbm, ⟨19, _⟩ => ⟨S_, .i32⟩
  | .hbm, ⟨20, _⟩ => ⟨S2x16x16, .i32⟩
  | .hbm, ⟨21, _⟩ => ⟨S2x16x16, .i32⟩
  | .hbm, ⟨22, _⟩ => ⟨S2x16x16, .i32⟩
  | .hbm, ⟨23, _⟩ => ⟨S2x16x16x1, .i32⟩
  | .hbm, ⟨24, _⟩ => ⟨S1, .i32⟩
  | .hbm, ⟨25, _⟩ => ⟨S_, .i32⟩
  | .hbm, ⟨26, _⟩ => ⟨S2x16x16x1, .i32⟩
  | .hbm, ⟨27, _⟩ => ⟨S2x16x16x1, .i1⟩
  | .hbm, ⟨28, _⟩ => ⟨S1x1x1x1, .i32⟩
  | .hbm, ⟨29, _⟩ => ⟨S2x16x16x1, .i32⟩
  | .hbm, ⟨30, _⟩ => ⟨S2x16x16x1, .i1⟩
  | .hbm, ⟨31, _⟩ => ⟨S2x16x16x1, .i1⟩
  | .hbm, ⟨32, _⟩ => ⟨S_, .i1⟩
  | .hbm, ⟨33, _⟩ => ⟨S2x16x16, .i1⟩
  | .hbm, ⟨34, _⟩ => ⟨S2x16x16x32, .f32⟩
  | .hbm, ⟨35, _⟩ => ⟨S2x16x16x32, .i1⟩
  | .hbm, ⟨36, _⟩ => ⟨S_, .f32⟩
  | .hbm, ⟨37, _⟩ => ⟨S2x16x16x32, .f32⟩
  | .hbm, ⟨38, _⟩ => ⟨S2x16x16x32, .f32⟩
  | .hbm, ⟨39, _⟩ => ⟨S2x16x16x32, .f32⟩
  | .hbm, ⟨40, _⟩ => ⟨S2x16x16x32, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x16x16x32, .f32⟩
  | .hbm, ⟨46, _⟩ => ⟨S2x16x16x32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x16x16x32, .f32⟩
  | .hbm, ⟨55, _⟩ => ⟨S2x16x16x32, .f32⟩
  | .hbm, ⟨56, _⟩ => ⟨S2x32x16x16, .f32⟩
  | _, _ => ⟨S2x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v8 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_cst_4 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩

abbrev nD : Nat := 1
abbrev τ : Topo := Topo.v7x

variable {F : FTy → Type} [FloatOps F]
-- ==== Proof.Trip.lean ====
/- One trip of each of the kernel's two loops, as the two payloads of the trip over the 32 rows of the
   transposed codebook's chunk that it loads. -/
module

public import proofs.«01_k».proof.Proof.Gen.KernelIdeal.Frame
public import Idealize.ShloMosaic.Lib.Claim
public import Idealize.ShloMosaic.Lib.Pointwise

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen

variable {F : FTy → Type} [FloatOps F]

/-- A lane of a chunk numbers a row of the codebook. -/
theorem col_lt (k : Fin 16) (l : Fin 512) : 512 * k.val + l.val < 8192 := by omega

/-- Row `c` of chunk `k` (512 columns) of the transposed codebook. -/
def row (et : Vec F S32x8192 .f32) (k : Fin 16) (c : Fin 32) : Vec F S1x512 .f32 :=
  fun j => et (ix2 c ⟨512 * k.val + (j 1 : Fin 512).val, col_lt k (j 1)⟩)

/-- A load of one row of a chunk is that row. -/
theorem read_row (V : Memref sig .tc .vmem S32x8192 .f32) (hV : V.IsWhole) (et : Vec F S32x8192 .f32)
    (off : Fin 2 → Nat) (h : ∀ a, off a + S1x512.size a ≤ S32x8192.size a) (k : Fin 16) (c : Fin 32)
    (ho : off = ![c.val, 512 * k.val]) :
    View.readAt (Elt F) V.view (Rect.unit (s := S32x8192) off S1x512.size h).toLoadRect (hV.unread et) = row et k c := by
  subst ho
  funext j
  idx_vars j
  rw [View.readAt_eq_ld, hV.read_unread]
  pointwise [row]

/-- All but the last square of the distances of batch 1, over the loaded rows, and the last difference. -/
def acc1 (X : FVec F S256x32 .f32) (r : Fin 32 → Vec F S1x512 .f32) : FVec F S256x512 .f32 :=
  k0_pay15 X (k0_pay13 X (k0_pay11 X (k0_pay9 X (k0_pay7 X (k0_pay5 X (k0_pay3 X
    (k0_pay1 X (r 0) (r 1) (r 2))
    (k0_pay2 X (r 3)) (r 4) (r 5) (r 6))
    (k0_pay4 X (r 7)) (r 8) (r 9) (r 10))
    (k0_pay6 X (r 11)) (r 12) (r 13) (r 14))
    (k0_pay8 X (r 15)) (r 16) (r 17) (r 18))
    (k0_pay10 X (r 19)) (r 20) (r 21) (r 22))
    (k0_pay12 X (r 23)) (r 24) (r 25) (r 26))
    (k0_pay14 X (r 27)) (r 28) (r 29) (r 30)

/-- All but the last square of the distances of batch 2, over the loaded rows, and the last difference. -/
def acc2 (X : FVec F S256x32 .f32) (r : Fin 32 → Vec F S1x512 .f32) : FVec F S256x512 .f32 :=
  k0_pay31 X (k0_pay29 X (k0_pay27 X (k0_pay25 X (k0_pay23 X (k0_pay21 X (k0_pay19 X
    (k0_pay17 X (r 0) (r 1) (r 2))
    (k0_pay18 X (r 3)) (r 4) (r 5) (r 6))
    (k0_pay20 X (r 7)) (r 8) (r 9) (r 10))
    (k0_pay22 X (r 11)) (r 12) (r 13) (r 14))
    (k0_pay24 X (r 15)) (r 16) (r 17) (r 18))
    (k0_pay26 X (r 19)) (r 20) (r 21) (r 22))
    (k0_pay28 X (r 23)) (r 24) (r 25) (r 26))
    (k0_pay30 X (r 27)) (r 28) (r 29) (r 30)

/-- The number of columns before the trip's chunk, as the kernel computes it. -/
theorem word1 (t : Fin k0_t1_loop.trips) {k : Fin 16} (hk : t.val = k.val) :
    Scalar.muli (Scf.iv 0#32 1#32 t.val) 512#32 = BitVec.ofNat 32 (512 * k.val) := by
  rw [hk]
  clear hk t
  revert k
  decide

/-- The number of columns before the trip's chunk, as the kernel computes it. -/
theorem word2 (t : Fin k0_t2_loop.trips) {k : Fin 16} (hk : t.val = k.val) :
    Scalar.muli (Scf.iv 0#32 1#32 t.val) 512#32 = BitVec.ofNat 32 (512 * k.val) := by
  rw [hk]
  clear hk t
  revert k
  decide

set_option maxHeartbeats 4000000 in
/-- A trip of batch 1's loop. -/
theorem trip_eq1 (𝒱 : Variants) (c : Dev nD) (bd : Option 𝒱.V) (arg0 : Memref sig .tc .vmem S2x256x32 .f32) (harg0 : arg0.IsWhole) (arg1 : Memref sig .tc .vmem S2x256x32 .f32) (harg1 : arg1.IsWhole) (arg2 : Memref sig .tc .vmem S32x8192 .f32) (harg2 : arg2.IsWhole) (arg3 : Memref sig .tc .vmem S8192x32 .f32) (harg3 : arg3.IsWhole) (arg4 : Memref sig .tc .vmem S2x256x32 .f32) (harg4 : arg4.IsWhole) (arg5 : Memref sig .tc .vmem S2x256x1 .i32) (harg5 : arg5.IsWhole) (arg6 : Memref sig .tc .vmem S1x1 .f32) (harg6 : arg6.IsWhole) (v0 : Vec F S1x256x32 .f32)
    (et : Vec F S32x8192 .f32) (t : Fin k0_t1_loop.trips) (k : Fin 16) (hk : t.val = k.val) (acc : FVec F S256x1 .f32 × IVec S256x1 32) :
    tripR_k0_t1 (F := F) 𝒱 c bd arg0 harg0 arg1 harg1 arg2 harg2 arg3 harg3 arg4 harg4 arg5 harg5 arg6 harg6 v0 (harg2.unread et) t acc
      = (k0_pay39 acc.1 (acc1 (k0_pay33 v0) (row et k)) (k0_pay16 (k0_pay33 v0) (row et k 31)),
         k0_pay40 acc.1 acc.2 (BitVec.ofNat 32 (512 * k.val)) (acc1 (k0_pay33 v0) (row et k)) (k0_pay16 (k0_pay33 v0) (row et k 31))) := by
  unfold tripR_k0_t1 trip_k0_t1
  dsimp only
  sl_unfold_words
  have e := fun off h j (ho : off = ![(j : Fin 32).val, 512 * k.val]) => read_row arg2 harg2 et off h k j ho
  have e0 := e (k0_off1 t) (k0_off1_inb t) 0 (by rw [k0_off1_eq, hk]; rfl)
  have e1 := e (k0_off2 t) (k0_off2_inb t) 1 (by rw [k0_off2_eq, hk]; rfl)
  have e2 := e (k0_off3 t) (k0_off3_inb t) 2 (by rw [k0_off3_eq, hk]; rfl)
  have e3 := e (k0_off4 t) (k0_off4_inb t) 3 (by rw [k0_off4_eq, hk]; rfl)
  have e4 := e (k0_off5 t) (k0_off5_inb t) 4 (by rw [k0_off5_eq, hk]; rfl)
  have e5 := e (k0_off6 t) (k0_off6_inb t) 5 (by rw [k0_off6_eq, hk]; rfl)
  have e6 := e (k0_off7 t) (k0_off7_inb t) 6 (by rw [k0_off7_eq, hk]; rfl)
  have e7 := e (k0_off8 t) (k0_off8_inb t) 7 (by rw [k0_off8_eq, hk]; rfl)
  have e8 := e (k0_off9 t) (k0_off9_inb t) 8 (by rw [k0_off9_eq, hk]; rfl)
  have e9 := e (k0_off10 t) (k0_off10_inb t) 9 (by rw [k0_off10_eq, hk]; rfl)
  have e10 := e (k0_off11 t) (k0_off11_inb t) 10 (by rw [k0_off11_eq, hk]; rfl)
  have e11 := e (k0_off12 t) (k0_off12_inb t) 11 (by rw [k0_off12_eq, hk]; rfl)
  have e12 := e (k0_off13 t) (k0_off13_inb t) 12 (by rw [k0_off13_eq, hk]; rfl)
  have e13 := e (k0_off14 t) (k0_off14_inb t) 13 (by rw [k0_off14_eq, hk]; rfl)
  have e14 := e (k0_off15 t) (k0_off15_inb t) 14 (by rw [k0_off15_eq, hk]; rfl)
  have e15 := e (k0_off16 t) (k0_off16_inb t) 15 (by rw [k0_off16_eq, hk]; rfl)
  have e16 := e (k0_off17 t) (k0_off17_inb t) 16 (by rw [k0_off17_eq, hk]; rfl)
  have e17 := e (k0_off18 t) (k0_off18_inb t) 17 (by rw [k0_off18_eq, hk]; rfl)
  have e18 := e (k0_off19 t) (k0_off19_inb t) 18 (by rw [k0_off19_eq, hk]; rfl)
  have e19 := e (k0_off20 t) (k0_off20_inb t) 19 (by rw [k0_off20_eq, hk]; rfl)
  have e20 := e (k0_off21 t) (k0_off21_inb t) 20 (by rw [k0_off21_eq, hk]; rfl)
  have e21 := e (k0_off22 t) (k0_off22_inb t) 21 (by rw [k0_off22_eq, hk]; rfl)
  have e22 := e (k0_off23 t) (k0_off23_inb t) 22 (by rw [k0_off23_eq, hk]; rfl)
  have e23 := e (k0_off24 t) (k0_off24_inb t) 23 (by rw [k0_off24_eq, hk]; rfl)
  have e24 := e (k0_off25 t) (k0_off25_inb t) 24 (by rw [k0_off25_eq, hk]; rfl)
  have e25 := e (k0_off26 t) (k0_off26_inb t) 25 (by rw [k0_off26_eq, hk]; rfl)
  have e26 := e (k0_off27 t) (k0_off27_inb t) 26 (by rw [k0_off27_eq, hk]; rfl)
  have e27 := e (k0_off28 t) (k0_off28_inb t) 27 (by rw [k0_off28_eq, hk]; rfl)
  have e28 := e (k0_off29 t) (k0_off29_inb t) 28 (by rw [k0_off29_eq, hk]; rfl)
  have e29 := e (k0_off30 t) (k0_off30_inb t) 29 (by rw [k0_off30_eq, hk]; rfl)
  have e30 := e (k0_off31 t) (k0_off31_inb t) 30 (by rw [k0_off31_eq, hk]; rfl)
  have e31 := e (k0_off32 t) (k0_off32_inb t) 31 (by rw [k0_off32_eq, hk]; rfl)
  rw [← e31, ← word1 t hk]
  unfold acc1
  rw [← e0, ← e1, ← e2, ← e3, ← e4, ← e5, ← e6, ← e7, ← e8, ← e9, ← e10, ← e11, ← e12, ← e13, ← e14, ← e15, ← e16, ← e17, ← e18, ← e19, ← e20, ← e21, ← e22, ← e23, ← e24, ← e25, ← e26, ← e27, ← e28, ← e29, ← e30]
  rfl

set_option maxHeartbeats 4000000 in
/-- A trip of batch 2's loop. -/
theorem trip_eq2 (𝒱 : Variants) (c : Dev nD) (bd : Option 𝒱.V) (arg0 : Memref sig .tc .vmem S2x256x32 .f32) (harg0 : arg0.IsWhole) (arg1 : Memref sig .tc .vmem S2x256x32 .f32) (harg1 : arg1.IsWhole) (arg2 : Memref sig .tc .vmem S32x8192 .f32) (harg2 : arg2.IsWhole) (arg3 : Memref sig .tc .vmem S8192x32 .f32) (harg3 : arg3.IsWhole) (arg4 : Memref sig .tc .vmem S2x256x32 .f32) (harg4 : arg4.IsWhole) (arg5 : Memref sig .tc .vmem S2x256x1 .i32) (harg5 : arg5.IsWhole) (arg6 : Memref sig .tc .vmem S1x1 .f32) (harg6 : arg6.IsWhole) (v30 : F .f32) (v31 : Vec F S1x256x32 .f32)
    (et : Vec F S32x8192 .f32) (t : Fin k0_t2_loop.trips) (k : Fin 16) (hk : t.val = k.val) (acc : FVec F S256x1 .f32 × IVec S256x1 32) :
    tripR_k0_t2 (F := F) 𝒱 c bd arg0 harg0 arg1 harg1 arg2 harg2 arg3 harg3 arg4 harg4 arg5 harg5 arg6 harg6 v30 v31 (harg2.unread et) t acc
      = (k0_pay51 acc.1 (acc2 (k0_pay45 v31) (row et k)) (k0_pay32 (k0_pay45 v31) (row et k 31)),
         k0_pay52 acc.1 acc.2 (BitVec.ofNat 32 (512 * k.val)) (acc2 (k0_pay45 v31) (row et k)) (k0_pay32 (k0_pay45 v31) (row et k 31))) := by
  unfold tripR_k0_t2 trip_k0_t2
  dsimp only
  sl_unfold_words
  have e := fun off h j (ho : off = ![(j : Fin 32).val, 512 * k.val]) => read_row arg2 harg2 et off h k j ho
  have e0 := e (k0_off33 t) (k0_off33_inb t) 0 (by rw [k0_off33_eq, hk]; rfl)
  have e1 := e (k0_off34 t) (k0_off34_inb t) 1 (by rw [k0_off34_eq, hk]; rfl)
  have e2 := e (k0_off35 t) (k0_off35_inb t) 2 (by rw [k0_off35_eq, hk]; rfl)
  have e3 := e (k0_off36 t) (k0_off36_inb t) 3 (by rw [k0_off36_eq, hk]; rfl)
  have e4 := e (k0_off37 t) (k0_off37_inb t) 4 (by rw [k0_off37_eq, hk]; rfl)
  have e5 := e (k0_off38 t) (k0_off38_inb t) 5 (by rw [k0_off38_eq, hk]; rfl)
  have e6 := e (k0_off39 t) (k0_off39_inb t) 6 (by rw [k0_off39_eq, hk]; rfl)
  have e7 := e (k0_off40 t) (k0_off40_inb t) 7 (by rw [k0_off40_eq, hk]; rfl)
  have e8 := e (k0_off41 t) (k0_off41_inb t) 8 (by rw [k0_off41_eq, hk]; rfl)
  have e9 := e (k0_off42 t) (k0_off42_inb t) 9 (by rw [k0_off42_eq, hk]; rfl)
  have e10 := e (k0_off43 t) (k0_off43_inb t) 10 (by rw [k0_off43_eq, hk]; rfl)
  have e11 := e (k0_off44 t) (k0_off44_inb t) 11 (by rw [k0_off44_eq, hk]; rfl)
  have e12 := e (k0_off45 t) (k0_off45_inb t) 12 (by rw [k0_off45_eq, hk]; rfl)
  have e13 := e (k0_off46 t) (k0_off46_inb t) 13 (by rw [k0_off46_eq, hk]; rfl)
  have e14 := e (k0_off47 t) (k0_off47_inb t) 14 (by rw [k0_off47_eq, hk]; rfl)
  have e15 := e (k0_off48 t) (k0_off48_inb t) 15 (by rw [k0_off48_eq, hk]; rfl)
  have e16 := e (k0_off49 t) (k0_off49_inb t) 16 (by rw [k0_off49_eq, hk]; rfl)
  have e17 := e (k0_off50 t) (k0_off50_inb t) 17 (by rw [k0_off50_eq, hk]; rfl)
  have e18 := e (k0_off51 t) (k0_off51_inb t) 18 (by rw [k0_off51_eq, hk]; rfl)
  have e19 := e (k0_off52 t) (k0_off52_inb t) 19 (by rw [k0_off52_eq, hk]; rfl)
  have e20 := e (k0_off53 t) (k0_off53_inb t) 20 (by rw [k0_off53_eq, hk]; rfl)
  have e21 := e (k0_off54 t) (k0_off54_inb t) 21 (by rw [k0_off54_eq, hk]; rfl)
  have e22 := e (k0_off55 t) (k0_off55_inb t) 22 (by rw [k0_off55_eq, hk]; rfl)
  have e23 := e (k0_off56 t) (k0_off56_inb t) 23 (by rw [k0_off56_eq, hk]; rfl)
  have e24 := e (k0_off57 t) (k0_off57_inb t) 24 (by rw [k0_off57_eq, hk]; rfl)
  have e25 := e (k0_off58 t) (k0_off58_inb t) 25 (by rw [k0_off58_eq, hk]; rfl)
  have e26 := e (k0_off59 t) (k0_off59_inb t) 26 (by rw [k0_off59_eq, hk]; rfl)
  have e27 := e (k0_off60 t) (k0_off60_inb t) 27 (by rw [k0_off60_eq, hk]; rfl)
  have e28 := e (k0_off61 t) (k0_off61_inb t) 28 (by rw [k0_off61_eq, hk]; rfl)
  have e29 := e (k0_off62 t) (k0_off62_inb t) 29 (by rw [k0_off62_eq, hk]; rfl)
  have e30 := e (k0_off63 t) (k0_off63_inb t) 30 (by rw [k0_off63_eq, hk]; rfl)
  have e31 := e (k0_off64 t) (k0_off64_inb t) 31 (by rw [k0_off64_eq, hk]; rfl)
  rw [← e31, ← word2 t hk]
  unfold acc2
  rw [← e0, ← e1, ← e2, ← e3, ← e4, ← e5, ← e6, ← e7, ← e8, ← e9, ← e10, ← e11, ← e12, ← e13, ← e14, ← e15, ← e16, ← e17, ← e18, ← e19, ← e20, ← e21, ← e22, ← e23, ← e24, ← e25, ← e26, ← e27, ← e28, ← e29, ← e30]
  rfl

end Cert.KernelIdeal.Hand
-- ==== Proof.Math.lean ====
/- The arithmetic the two programs are compared by: the least pair of a value and an index, found chunk by chunk
   or by the host's fold, a row picked by a sum, and the loss's two scalings. -/
module

public import Idealize.ShloMosaic.Lib.Pointwise

@[expose] public section

noncomputable section

namespace Cert.Hand

open Idealize.ShloMosaic

/-- The order of pairs of a value and an index: by the value, then by the index. -/
def Le (v : EReal) (a : ℕ) (w : EReal) (b : ℕ) : Prop := v < w ∨ v = w ∧ a ≤ b

/-- A pair is at most itself. -/
theorem Le.refl (v : EReal) (a : ℕ) : Le v a v a := .inr ⟨rfl, le_rfl⟩

/-- The order is transitive. -/
theorem Le.trans {u v w : EReal} {a b c : ℕ} (h : Le u a v b) (h' : Le v b w c) : Le u a w c := by
  rcases h with h | ⟨rfl, h⟩
  · rcases h' with h' | ⟨rfl, h'⟩
    · exact .inl (h.trans h')
    · exact .inl h
  · rcases h' with h' | ⟨rfl, h'⟩
    · exact .inl h'
    · exact .inr ⟨rfl, h.trans h'⟩

/-- Two pairs each at most the other are the same. -/
theorem Le.antisymm {v w : EReal} {a b : ℕ} (h : Le v a w b) (h' : Le w b v a) : v = w ∧ a = b := by
  rcases h with h | ⟨rfl, h⟩
  · rcases h' with h' | ⟨rfl, h'⟩
    · exact absurd (h.trans h') (lt_irrefl _)
    · exact absurd h (lt_irrefl _)
  · rcases h' with h' | ⟨_, h'⟩
    · exact absurd h' (lt_irrefl _)
    · exact ⟨rfl, le_antisymm h h'⟩

/-- The pair of `v` and `i` is the least among that of plus infinity and 0 and those of the values below index `n`. -/
def IsLeast (D : Fin 8192 → EReal) (n : ℕ) (v : EReal) (i : BitVec 32) : Prop :=
  ∃ a : ℕ, i = BitVec.ofNat 32 a ∧ ((v = ⊤ ∧ a = 0) ∨ ∃ j : Fin 8192, j.val < n ∧ v = D j ∧ a = j.val)
    ∧ Le v a ⊤ 0 ∧ ∀ j : Fin 8192, j.val < n → Le v a (D j) j.val

/-- Before any row, the least pair is the one the search starts from. -/
theorem IsLeast.zero (D : Fin 8192 → EReal) : IsLeast D 0 ⊤ 0#32 :=
  ⟨0, rfl, .inl ⟨rfl, rfl⟩, .refl _ _, fun _ h => absurd h (Nat.not_lt_zero _)⟩

/-- There is one least pair. -/
theorem IsLeast.unique {D : Fin 8192 → EReal} {n : ℕ} {v w : EReal} {i j : BitVec 32}
    (h : IsLeast D n v i) (h' : IsLeast D n w j) : v = w ∧ i = j := by
  obtain ⟨a, rfl, ha, ht, hl⟩ := h
  obtain ⟨b, rfl, hb, ht', hl'⟩ := h'
  have h1 : Le v a w b := by
    rcases hb with ⟨rfl, rfl⟩ | ⟨k, hk, rfl, rfl⟩
    · exact ht
    · exact hl k hk
  have h2 : Le w b v a := by
    rcases ha with ⟨rfl, rfl⟩ | ⟨k, hk, rfl, rfl⟩
    · exact ht'
    · exact hl' k hk
  obtain ⟨rfl, rfl⟩ := h1.antisymm h2
  exact ⟨rfl, rfl⟩

/-- The index of the least pair of all is that of a row. -/
theorem IsLeast.lt {D : Fin 8192 → EReal} {n : ℕ} {v : EReal} {i : BitVec 32} (h : IsLeast D n v i) :
    ∃ j : Fin 8192, i = BitVec.ofNat 32 j.val := by
  obtain ⟨a, rfl, ⟨_, rfl⟩ | ⟨j, _, _, rfl⟩, _⟩ := h
  · exact ⟨0, rfl⟩
  · exact ⟨j, rfl⟩

/-! ## A chunk of 512 -/

/-- A small number's word, read signed, is the number. -/
theorem toInt_ofNat (n : ℕ) (h : n ≤ 8192) : (BitVec.ofNat 32 n).toInt = n := by
  have ht : (BitVec.ofNat 32 n).toNat = n := by rw [BitVec.toNat_ofNat]; omega
  rw [BitVec.toInt_eq_toNat_of_lt (by omega), ht]

/-- The lesser of two words, read signed. -/
theorem toInt_minsi (x y : BitVec 32) : (IntOp.minsi x y).toInt = min x.toInt y.toInt := by
  unfold IntOp.minsi
  simp only [BitVec.slt, decide_eq_true_eq]
  split <;> omega

/-- The least of the lanes at which `P` holds, where a lane at which it fails counts as 8192. -/
theorem fold_lane (P : Fin 512 → Prop) [DecidablePred P] (x : Fin 512) (hx : P x) (hm : ∀ y, P y → x ≤ y) :
    Finset.univ.fold IntOp.minsi (2147483647#32) (fun y : Fin 512 => if P y then BitVec.ofNat 32 y.val else 8192#32)
      = BitVec.ofNat 32 x.val := by
  apply BitVec.eq_of_toInt_eq
  rw [← Finset.fold_hom (op' := min) (m := BitVec.toInt) toInt_minsi, toInt_ofNat x.val (by omega)]
  apply le_antisymm
  · rw [Finset.fold_min_le]
    refine .inr ⟨x, Finset.mem_univ _, ?_⟩
    rw [if_pos hx, toInt_ofNat x.val (by omega)]
  · rw [Finset.le_fold_min]
    refine ⟨?_, fun y _ => ?_⟩
    · have : (2147483647#32).toInt = 2147483647 := by decide
      omega
    · by_cases h : P y
      · rw [if_pos h, toInt_ofNat y.val (by omega)]
        have := hm y h
        omega
      · rw [if_neg h]
        have : (8192#32).toInt = 8192 := by decide
        omega

/-- The columns of chunk `k`. -/
abbrev col (k : Fin 16) (x : Fin 512) : Fin 8192 := ⟨512 * k.val + x.val, by omega⟩

/-- The chunk's least value and the first lane that has it update the least pair. -/
theorem IsLeast.step {D : Fin 8192 → EReal} (k : Fin 16) {v : EReal} {i : BitVec 32} (h : IsLeast D (512 * k.val) v i) :
    IsLeast D (512 * (k.val + 1))
      (if Finset.univ.fold min (⊤ : EReal) (fun x => D (col k x)) < v
        then Finset.univ.fold min (⊤ : EReal) (fun x => D (col k x)) else v)
      (if Finset.univ.fold min (⊤ : EReal) (fun x => D (col k x)) < v then
        IntOp.addi (Finset.univ.fold IntOp.minsi (2147483647#32) (fun x : Fin 512 =>
          if D (col k x) = Finset.univ.fold min (⊤ : EReal) (fun x => D (col k x)) then BitVec.ofNat 32 x.val else 8192#32))
          (BitVec.ofNat 32 (512 * k.val))
        else i) := by
  generalize hm : Finset.univ.fold min (⊤ : EReal) (fun x => D (col k x)) = m
  have hle : ∀ x, m ≤ D (col k x) := fun x =>
    (Finset.le_fold_min (c := m)).1 (le_of_eq hm.symm) |>.2 x (Finset.mem_univ _)
  have hex : ∃ x, D (col k x) = m := by
    rcases (Finset.fold_min_le (c := m)).1 (le_of_eq hm) with h | ⟨x, _, hx⟩
    · exact ⟨0, le_antisymm (le_top.trans h) (hle 0)⟩
    · exact ⟨x, le_antisymm hx (hle x)⟩
  obtain ⟨x, hx, hmin⟩ : ∃ x, D (col k x) = m ∧ ∀ y, D (col k y) = m → x ≤ y := by
    classical
    obtain ⟨x, hx, hxm⟩ := Finset.exists_min_image (Finset.univ.filter fun x => D (col k x) = m) id
      (by obtain ⟨x, hx⟩ := hex; exact ⟨x, by simp [hx]⟩)
    exact ⟨x, by simpa using hx, fun y hy => hxm y (by simp [hy])⟩
  rw [fold_lane (fun y => D (col k y) = m) x hx hmin]
  obtain ⟨a, rfl, ha, ht, hl⟩ := h
  have hsplit : ∀ j : Fin 8192, j.val < 512 * (k.val + 1) → j.val < 512 * k.val ∨ ∃ y : Fin 512, j = col k y := by
    intro j hj
    by_cases h : j.val < 512 * k.val
    · exact .inl h
    · exact .inr ⟨⟨j.val - 512 * k.val, by omega⟩, Fin.ext (by simp only [col]; omega)⟩
  have hchunk : ∀ y, Le m (512 * k.val + x.val) (D (col k y)) (col k y).val := by
    intro y
    rcases (hle y).lt_or_eq with h | h
    · exact .inl h
    · refine .inr ⟨h, ?_⟩
      have := hmin y h.symm
      simp only [col]
      omega
  by_cases hv : m < v
  · rw [if_pos hv, if_pos hv]
    have hlt : ∀ {w : EReal} {b : ℕ}, Le v a w b → Le m (512 * k.val + x.val) w b := fun h => Le.trans (.inl hv) h
    refine ⟨512 * k.val + x.val, ?_, .inr ⟨col k x, by simp only [col]; omega, hx.symm, rfl⟩, hlt ht, fun j hj => ?_⟩
    · show BitVec.ofNat 32 x.val + BitVec.ofNat 32 (512 * k.val) = _
      rw [← BitVec.ofNat_add, Nat.add_comm]
    · rcases hsplit j hj with h | ⟨y, rfl⟩
      · exact hlt (hl j h)
      · exact hchunk y
  · rw [if_neg hv, if_neg hv]
    refine ⟨a, rfl, ?_, ht, fun j hj => ?_⟩
    · rcases ha with h | ⟨j, hj, h⟩
      · exact .inl h
      · exact .inr ⟨j, by omega, h⟩
    · rcases hsplit j hj with h | ⟨y, rfl⟩
      · exact hl j h
      · rcases (not_lt.1 hv).lt_or_eq with h | h
        · exact .inl (h.trans_le (hle y))
        · rcases (hle y).lt_or_eq with h' | h'
          · exact .inl (h ▸ h')
          · refine .inr ⟨h.trans h', ?_⟩
            rcases ha with ⟨_, rfl⟩ | ⟨j, hj, _, rfl⟩
            · exact Nat.zero_le _
            · simp only [col]; omega

/-! ## The fold of a list of pairs -/

/-- A fold of a list by an operation that keeps a least one of its two arguments ends at a least one of the initial pair
    and the list's. -/
theorem foldl_least {α : Type} (f : α → α → α) (R : α → α → Prop) (hr : ∀ a, R a a) (ht : ∀ a b c, R a b → R b c → R a c)
    (hf : ∀ a b, (f a b = a ∨ f a b = b) ∧ R (f a b) a ∧ R (f a b) b) (l : List α) (a : α) :
    (l.foldl f a = a ∨ l.foldl f a ∈ l) ∧ R (l.foldl f a) a ∧ ∀ p ∈ l, R (l.foldl f a) p := by
  induction l generalizing a with
  | nil => exact ⟨.inl rfl, hr a, fun _ h => absurd h List.not_mem_nil⟩
  | cons b l ih =>
    obtain ⟨hmem, hle, hall⟩ := ih (f a b)
    obtain ⟨hab, hra, hrb⟩ := hf a b
    simp only [List.foldl_cons]
    refine ⟨?_, ht _ _ _ hle hra, fun p hp => ?_⟩
    · rcases hmem with h | h
      · rcases hab with h' | h'
        · exact .inl (h.trans h')
        · exact .inr (by rw [h, h']; exact List.mem_cons_self)
      · exact .inr (List.mem_cons_of_mem _ h)
    · rcases List.mem_cons.1 hp with rfl | hp
      · exact ht _ _ _ hle hrb
      · exact hall p hp

/-! ## A row picked by a sum -/

/-- The sum of every row times whether it is row `j` is row `j`, infinite entries and all. -/
theorem sum_pick (f : Fin 8192 → EReal) (j : Fin 8192) (i : BitVec 32) (hi : i = BitVec.ofNat 32 j.val) :
    ∑ k : Fin 8192, (if BitVec.ofNat 32 k.val = i then (1 : EReal) else 0) * f k = f j := by
  subst hi
  rw [Finset.sum_eq_single j]
  · rw [if_pos rfl, one_mul]
  · intro k _ hk
    rw [if_neg, zero_mul]
    intro h
    apply hk
    have := congrArg BitVec.toNat h
    simp only [BitVec.toNat_ofNat] at this
    exact Fin.ext (by omega)
  · exact fun h => absurd (Finset.mem_univ _) h

end Cert.Hand
-- ==== Proof.Loop.lean ====
/- The two loops' payloads read at an index, over the extended reals, and what the loops end at. -/
module

public import proofs.«01_k».proof.Proof.Trip
public import proofs.«01_k».proof.Proof.Math

@[expose] public section

set_option maxRecDepth 16384

noncomputable section

namespace Cert.KernelIdeal.Hand

open Idealize.ShloMosaic Idealize.ShloMosaic.TcCoe Idealize.SL.Sem
open Cert.KernelIdeal.Gen Cert.Hand

/-- A sum of 32 terms as the kernel adds them: from the left. -/
theorem sum32 (f : Fin 32 → EReal) : ∑ c, f c
    = (((((((((((((((((((((((((((((((f 0 + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30) + f 31) := by
  simp only [Fin.sum_univ_castSucc, Fin.sum_univ_zero, zero_add]
  rfl

/-- The word of plus infinity is plus infinity. -/
theorem top_word : Ideal.ofBits .f32 0x7F800000#32 = (⊤ : EReal) := by
  simp [Ideal.ofBits, Ideal.ieee]

/-- The squared distances of a point, a row of `X`, to the columns of the transposed codebook. -/
def dist (et : FVec Ideal S32x8192 .f32) (X : FVec Ideal S256x32 .f32) (p : Fin 256) (j : Fin 8192) : EReal :=
  ∑ c : Fin 32, (et (ix2 c j) - X (ix2 p c)) * (et (ix2 c j) - X (ix2 p c))

set_option maxHeartbeats 4000000 in
/-- Batch 1's squared distances at a point and a column. -/
theorem dist_at1 (X : FVec Ideal S256x32 .f32) (r : Fin 32 → Vec Ideal S1x512 .f32) (p : Fin 256) (l : Fin 512) :
    k0_pay36 (acc1 X r) (k0_pay16 X (r 31)) (ix2 p l)
      = ∑ c : Fin 32, (r c (ix2 0 l) - X (ix2 p c)) * (r c (ix2 0 l) - X (ix2 p c)) := by
  rw [sum32]
  pointwise [k0_pay36, acc1, k0_pay1, k0_pay2, k0_pay3, k0_pay4, k0_pay5, k0_pay6, k0_pay7, k0_pay8, k0_pay9, k0_pay10, k0_pay11, k0_pay12, k0_pay13, k0_pay14, k0_pay15, k0_pay16]

set_option maxHeartbeats 4000000 in
/-- Batch 2's squared distances at a point and a column. -/
theorem dist_at2 (X : FVec Ideal S256x32 .f32) (r : Fin 32 → Vec Ideal S1x512 .f32) (p : Fin 256) (l : Fin 512) :
    k0_pay48 (acc2 X r) (k0_pay32 X (r 31)) (ix2 p l)
      = ∑ c : Fin 32, (r c (ix2 0 l) - X (ix2 p c)) * (r c (ix2 0 l) - X (ix2 p c)) := by
  rw [sum32]
  pointwise [k0_pay48, acc2, k0_pay17, k0_pay18, k0_pay19, k0_pay20, k0_pay21, k0_pay22, k0_pay23, k0_pay24, k0_pay25, k0_pay26, k0_pay27, k0_pay28, k0_pay29, k0_pay30, k0_pay31, k0_pay32]

/-- Batch 1's least value after a trip. -/
theorem val_at1 (b : FVec Ideal S256x1 .f32) (A B : FVec Ideal S256x512 .f32) (p : Fin 256) :
    k0_pay39 b A B (ix2 p 0)
      = if Finset.univ.fold min (⊤ : EReal) (fun x => k0_pay36 A B (ix2 p x)) < b (ix2 p 0)
          then Finset.univ.fold min (⊤ : EReal) (fun x => k0_pay36 A B (ix2 p x)) else b (ix2 p 0) := by
  pointwise [k0_pay39, k0_pay38, k0_pay37]
  rw [top_word]

/-- Batch 1's index of it. -/
theorem idx_at1 (b : FVec Ideal S256x1 .f32) (i : IVec S256x1 32) (w : BitVec 32) (A B : FVec Ideal S256x512 .f32) (p : Fin 256) :
    k0_pay40 b i w A B (ix2 p 0)
      = if Finset.univ.fold min (⊤ : EReal) (fun x => k0_pay36 A B (ix2 p x)) < b (ix2 p 0) then
          IntOp.addi (Finset.univ.fold IntOp.minsi (2147483647#32) (fun x : Fin 512 =>
            if k0_pay36 A B (ix2 p x) = Finset.univ.fold min (⊤ : EReal) (fun x => k0_pay36 A B (ix2 p x))
              then BitVec.ofNat 32 x.val else 8192#32)) w
        else i (ix2 p 0) := by
  pointwise [k0_pay40, k0_pay38, k0_pay37]
  rw [top_word]

/-- Batch 2's least value after a trip. -/
theorem val_at2 (b : FVec Ideal S256x1 .f32) (A B : FVec Ideal S256x512 .f32) (p : Fin 256) :
    k0_pay51 b A B (ix2 p 0)
      = if Finset.univ.fold min (⊤ : EReal) (fun x => k0_pay48 A B (ix2 p x)) < b (ix2 p 0)
          then Finset.univ.fold min (⊤ : EReal) (fun x => k0_pay48 A B (ix2 p x)) else b (ix2 p 0) := by
  pointwise [k0_pay51, k0_pay50, k0_pay49]
  rw [top_word]

/-- Batch 2's index of it. -/
theorem idx_at2 (b : FVec Ideal S256x1 .f32) (i : IVec S256x1 32) (w : BitVec 32) (A B : FVec Ideal S256x512 .f32) (p : Fin 256) :
    k0_pay52 b i w A B (ix2 p 0)
      = if Finset.univ.fold min (⊤ : EReal) (fun x => k0_pay48 A B (ix2 p x)) < b (ix2 p 0) then
          IntOp.addi (Finset.univ.fold IntOp.minsi (2147483647#32) (fun x : Fin 512 =>
            if k0_pay48 A B (ix2 p x) = Finset.univ.fold min (⊤ : EReal) (fun x => k0_pay48 A B (ix2 p x))
              then BitVec.ofNat 32 x.val else 8192#32)) w
        else i (ix2 p 0) := by
  pointwise [k0_pay52, k0_pay50, k0_pay49]
  rw [top_word]

/-- The first batch's loop makes 16 trips. -/
theorem trips1 : k0_t1_loop.trips = 16 := by decide

/-- Before trip `n` of batch 1's loop the carried pair is, at every point, the least one of the columns of the chunks before. -/
theorem loop1 (𝒱 : Variants) (c : Dev nD) (bd : Option 𝒱.V) (arg0 : Memref sig .tc .vmem S2x256x32 .f32) (harg0 : arg0.IsWhole) (arg1 : Memref sig .tc .vmem S2x256x32 .f32) (harg1 : arg1.IsWhole) (arg2 : Memref sig .tc .vmem S32x8192 .f32) (harg2 : arg2.IsWhole) (arg3 : Memref sig .tc .vmem S8192x32 .f32) (harg3 : arg3.IsWhole) (arg4 : Memref sig .tc .vmem S2x256x32 .f32) (harg4 : arg4.IsWhole) (arg5 : Memref sig .tc .vmem S2x256x1 .i32) (harg5 : arg5.IsWhole) (arg6 : Memref sig .tc .vmem S1x1 .f32) (harg6 : arg6.IsWhole) (v0 : Vec Ideal S1x256x32 .f32)
    (et : Vec Ideal S32x8192 .f32) (p : Fin 256) (n : ℕ) (hn : n ≤ 16) :
    IsLeast (dist et (k0_pay33 v0) p) (512 * n)
      ((st_k0_t1 (F := Ideal) 𝒱 c bd arg0 harg0 arg1 harg1 arg2 harg2 arg3 harg3 arg4 harg4 arg5 harg5 arg6 harg6 v0 (harg2.unread et) (k0_pay34, k0_pay35) n).1 (ix2 p 0))
      ((st_k0_t1 (F := Ideal) 𝒱 c bd arg0 harg0 arg1 harg1 arg2 harg2 arg3 harg3 arg4 harg4 arg5 harg5 arg6 harg6 v0 (harg2.unread et) (k0_pay34, k0_pay35) n).2 (ix2 p 0)) := by
  induction n with
  | zero =>
    rw [st_k0_t1_zero]
    show IsLeast _ 0 (Ideal.ofBits .f32 0x7F800000#32) 0#32
    rw [top_word]
    exact .zero _
  | succ n ih =>
    have hk := st_k0_t1_succ (F := Ideal) 𝒱 c bd arg0 harg0 arg1 harg1 arg2 harg2 arg3 harg3 arg4 harg4 arg5 harg5 arg6 harg6 v0 (harg2.unread et) (k0_pay34, k0_pay35) ⟨n, by rw [trips1]; omega⟩
    have h := (ih (by omega)).step ⟨n, by omega⟩
    have e := trip_eq1 (F := Ideal) 𝒱 c bd arg0 harg0 arg1 harg1 arg2 harg2 arg3 harg3 arg4 harg4 arg5 harg5 arg6 harg6 v0 et ⟨n, by rw [trips1]; omega⟩ ⟨n, by omega⟩ rfl
      (st_k0_t1 (F := Ideal) 𝒱 c bd arg0 harg0 arg1 harg1 arg2 harg2 arg3 harg3 arg4 harg4 arg5 harg5 arg6 harg6 v0 (harg2.unread et) (k0_pay34, k0_pay35) n)
    rw [show n + 1 = (⟨n, by rw [trips1]; omega⟩ : Fin k0_t1_loop.trips).val + 1 from rfl, hk.trans e]
    dsimp only
    rw [val_at1, idx_at1]
    simp only [dist_at1]
    exact h

/-- The second batch's loop makes 16 trips. -/
theorem trips2 : k0_t2_loop.trips = 16 := by decide

/-- Before trip `n` of batch 2's loop the carried pair is, at every point, the least one of the columns of the chunks before. -/
theorem loop2 (𝒱 : Variants) (c : Dev nD) (bd : Option 𝒱.V) (arg0 : Memref sig .tc .vmem S2x256x32 .f32) (harg0 : arg0.IsWhole) (arg1 : Memref sig .tc .vmem S2x256x32 .f32) (harg1 : arg1.IsWhole) (arg2 : Memref sig .tc .vmem S32x8192 .f32) (harg2 : arg2.IsWhole) (arg3 : Memref sig .tc .vmem S8192x32 .f32) (harg3 : arg3.IsWhole) (arg4 : Memref sig .tc .vmem S2x256x32 .f32) (harg4 : arg4.IsWhole) (arg5 : Memref sig .tc .vmem S2x256x1 .i32) (harg5 : arg5.IsWhole) (arg6 : Memref sig .tc .vmem S1x1 .f32) (harg6 : arg6.IsWhole) (v30 : EReal) (v31 : Vec Ideal S1x256x32 .f32)
    (et : Vec Ideal S32x8192 .f32) (p : Fin 256) (n : ℕ) (hn : n ≤ 16) :
    IsLeast (dist et (k0_pay45 v31) p) (512 * n)
      ((st_k0_t2 (F := Ideal) 𝒱 c bd arg0 harg0 arg1 harg1 arg2 harg2 arg3 harg3 arg4 harg4 arg5 harg5 arg6 harg6 v30 v31 (harg2.unread et) (k0_pay46, k0_pay47) n).1 (ix2 p 0))
      ((st_k0_t2 (F := Ideal) 𝒱 c bd arg0 harg0 arg1 harg1 arg2 harg2 arg3 harg3 arg4 harg4 arg5 harg5 arg6 harg6 v30 v31 (harg2.unread et) (k0_pay46, k0_pay47) n).2 (ix2 p 0)) := by
  induction n with
  | zero =>
    rw [st_k0_t2_zero]
    show IsLeast _ 0 (Ideal.ofBits .f32 0x7F800000#32) 0#32
    rw [top_word]
    exact .zero _
  | succ n ih =>
    have hk := st_k0_t2_succ (F := Ideal) 𝒱 c bd arg0 harg0 arg1 harg1 arg2 harg2 arg3 harg3 arg4 harg4 arg5 harg5 arg6 harg6 v30 v31 (harg2.unread et) (k0_pay46, k0_pay47) ⟨n, by rw [trips2]; omega⟩
    have h := (ih (by omega)).step ⟨n, by omega⟩
    have e := trip_eq2 (F := Ideal) 𝒱 c bd arg0 harg0 arg1 harg1 arg2 harg2 arg3 harg3 arg4 harg4 arg5 harg5 arg6 harg6 v30 v31 et ⟨n, by rw [trips2]; omega⟩ ⟨n, by omega⟩ rfl
      (st_k0_t2 (F := Ideal) 𝒱 c bd arg0 harg0 arg1 harg1 arg2 harg2 arg3 harg3 arg4 harg4 arg5 harg5 arg6 harg6 v30 v31 (harg2.unread et) (k0_pay46, k0_pay47) n)
    rw [show n + 1 = (⟨n, by rw [trips2]; omega⟩ : Fin k0_t2_loop.trips).val + 1 from rfl, hk.trans e]
    dsimp only
    rw [val_at2, idx_at2]
    simp only [dist_at2]
    exact h

end Cert.KernelIdeal.Hand
-- ==== Proof.Body.lean ====
/- What the kernel's body leaves in its three output buffers, entry by entry, from what its four input buffers hold. -/
module

public import proofs.«01_k».proof.Proof.Loop
public import Idealize.ShloMosaic.Lib.Pipeline.ValueKit.Tiles

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen Cert.Hand

/-- A comparison for equality, widened and read as a number, is one or zero. -/
theorem one_hot (a b : BitVec 32) :
    FloatOps.sitofp (F := Ideal) FTy.f32 (BitVec.setWidth 32 (IntOp.cmpi CmpIPredicate.eq a b)) = if a = b then (1 : EReal) else 0 := by
  by_cases h : a = b
  · subst h
    simp [IntOp.cmpi, FloatOps.sitofp]
  · have e : (a == b) = false := beq_false_of_ne h
    simp [IntOp.cmpi, h, e, FloatOps.sitofp]

/-- The squared distances of a point to the columns. -/
def distF (et : FVec Ideal S32x8192 .f32) (y : Fin 32 → EReal) (j : Fin 8192) : EReal :=
  ∑ c : Fin 32, (et (ix2 c j) - y c) * (et (ix2 c j) - y c)

/-- A trip's distances, spelt over the columns the body loads, are `distF`'s. -/
theorem dist_eq (et : FVec Ideal S32x8192 .f32) (X : FVec Ideal S256x32 .f32) (p : Fin 256) (y : Fin 32 → EReal)
    (h : ∀ c, X (ix2 p c) = y c) : dist et X p = distF et y := by
  funext j
  simp only [dist, distF, h]

/-- Batch 1's residual at a point and a channel: the chosen row's entry, less the input's. -/
theorem res_at1 (i : IVec S256x1 32) (e : Vec Ideal S8192x32 .f32) (z : Vec Ideal S1x256x32 .f32) (p : Fin 256) (c : Fin 32)
    (j : Fin 8192) (hj : i (ix2 p 0) = BitVec.ofNat 32 j.val) :
    k0_pay42 i e z (ix2 p c) = e (ix2 j c) - z (ix3 0 p c) := by
  rw [← sum_pick (fun k => e (ix2 k c)) j _ hj]
  pointwise [k0_pay42]
  simp only [one_hot]

/-- Batch 2's residual at a point and a channel: the chosen row's entry, less the input's. -/
theorem res_at2 (i : IVec S256x1 32) (e : Vec Ideal S8192x32 .f32) (z : Vec Ideal S1x256x32 .f32) (p : Fin 256) (c : Fin 32)
    (j : Fin 8192) (hj : i (ix2 p 0) = BitVec.ofNat 32 j.val) :
    k0_pay54 i e z (ix2 p c) = e (ix2 j c) - z (ix3 0 p c) := by
  rw [← sum_pick (fun k => e (ix2 k c)) j _ hj]
  pointwise [k0_pay54]
  simp only [one_hot]

/-- Batch 1's stored entry: the input's, and the residual. -/
theorem st_at1 (i : IVec S256x1 32) (e : Vec Ideal S8192x32 .f32) (z z' : Vec Ideal S1x256x32 .f32) (p : Fin 256) (c : Fin 32) :
    k0_pay43 i e z z' (ix3 0 p c) = z' (ix3 0 p c) + k0_pay42 i e z (ix2 p c) := by
  pointwise [k0_pay43]

/-- Batch 1's stored index. -/
theorem idx_out1 (i : IVec S256x1 32) (p : Fin 256) : k0_pay41 i (ix3 0 p 0) = i (ix2 p 0) := by
  pointwise [k0_pay41]

/-- Batch 1's slab, without its leading axis. -/
theorem slab_at1 (X : Vec Ideal S1x256x32 .f32) (p : Fin 256) (c : Fin 32) : k0_pay33 X (ix2 p c) = X (ix3 0 p c) := by
  pointwise [k0_pay33]

/-- Batch 2's stored entry: the input's, and the residual. -/
theorem st_at2 (i : IVec S256x1 32) (e : Vec Ideal S8192x32 .f32) (z z' : Vec Ideal S1x256x32 .f32) (p : Fin 256) (c : Fin 32) :
    k0_pay55 i e z z' (ix3 0 p c) = z' (ix3 0 p c) + k0_pay54 i e z (ix2 p c) := by
  pointwise [k0_pay55]

/-- Batch 2's stored index. -/
theorem idx_out2 (i : IVec S256x1 32) (p : Fin 256) : k0_pay53 i (ix3 0 p 0) = i (ix2 p 0) := by
  pointwise [k0_pay53]

/-- Batch 2's slab, without its leading axis. -/
theorem slab_at2 (X : Vec Ideal S1x256x32 .f32) (p : Fin 256) (c : Fin 32) : k0_pay45 X (ix2 p c) = X (ix3 0 p c) := by
  pointwise [k0_pay45]

/-- Batch 1's sum of squared residuals. -/
theorem sum_at1 (i : IVec S256x1 32) (e : Vec Ideal S8192x32 .f32) (z : Vec Ideal S1x256x32 .f32) :
    k0_pay44 i e z = ∑ p : Fin 256, ∑ c : Fin 32, k0_pay42 i e z (ix2 p c) * k0_pay42 i e z (ix2 p c) := by
  pointwise [k0_pay44]

/-- The stored loss: both batches' sums, scaled. -/
theorem sum_at2 (s : EReal) (i : IVec S256x1 32) (e : Vec Ideal S8192x32 .f32) (z : Vec Ideal S1x256x32 .f32) :
    k0_pay56 (F := Ideal) s i e z (ix2 0 0)
      = (s + ∑ p : Fin 256, ∑ c : Fin 32, k0_pay54 i e z (ix2 p c) * k0_pay54 i e z (ix2 p c)) * Ideal.ofBits .f32 0x38A00000#32 := by
  pointwise [k0_pay56]

set_option maxHeartbeats 4000000 in
/-- What the body leaves: there are rows `J`, the nearest ones to every point by the distances the first and third input
    hold, such that the index output holds their numbers, the quantised output the second input plus the row less the
    second input, and the loss output the scaled sum of the squares of those differences. -/
theorem body_out (c : Dev nD) (arg0 : Memref sig .tc .vmem S2x256x32 .f32) (harg0 : arg0.IsWhole) (arg1 : Memref sig .tc .vmem S2x256x32 .f32) (harg1 : arg1.IsWhole) (arg2 : Memref sig .tc .vmem S32x8192 .f32) (harg2 : arg2.IsWhole) (arg3 : Memref sig .tc .vmem S8192x32 .f32) (harg3 : arg3.IsWhole) (arg4 : Memref sig .tc .vmem S2x256x32 .f32) (harg4 : arg4.IsWhole) (arg5 : Memref sig .tc .vmem S2x256x1 .i32) (harg5 : arg5.IsWhole) (arg6 : Memref sig .tc .vmem S1x1 .f32) (harg6 : arg6.IsWhole)
    (x0 : Vec Ideal S2x256x32 .f32) (x1 : Vec Ideal S2x256x32 .f32) (x2 : Vec Ideal S32x8192 .f32) (x3 : Vec Ideal S8192x32 .f32) : ∃ J : Fin 2 → Fin 256 → Fin 8192,
    (∀ b p, ∃ v, IsLeast (distF x2 fun k => x0 (ix3 b p k)) 8192 v (BitVec.ofNat 32 (J b p).val)) ∧
    (∀ y, out0_A_5 (F := Ideal) c arg0 harg0 arg1 harg1 arg2 harg2 arg3 harg3 arg4 harg4 arg5 harg5 arg6 harg6 x0 x1 x2 x3 y = BitVec.ofNat 32 (J (y 0) (y 1)).val) ∧
    (∀ y, out0_A_4 (F := Ideal) c arg0 harg0 arg1 harg1 arg2 harg2 arg3 harg3 arg4 harg4 arg5 harg5 arg6 harg6 x0 x1 x2 x3 y = x1 y + (x3 (ix2 (J (y 0) (y 1)) (y 2)) - x1 y)) ∧
    (out0_A_6 (F := Ideal) c arg0 harg0 arg1 harg1 arg2 harg2 arg3 harg3 arg4 harg4 arg5 harg5 arg6 harg6 x0 x1 x2 x3 (ix2 0 0) =
      (∑ b : Fin 2, ∑ p : Fin 256, ∑ k : Fin 32, (x3 (ix2 (J b p) k) - x1 (ix3 b p k)) * (x3 (ix2 (J b p) k) - x1 (ix3 b p k)))
        * Ideal.ofBits .f32 0x38A00000#32) := by
  have L1 := fun p => loop1 Variants.none c none arg0 harg0 arg1 harg1 arg2 harg2 arg3 harg3 arg4 harg4 arg5 harg5 arg6 harg6 (View.ld (Val := Elt Ideal) (e' := .f32) x0 (Rect.unit (s := S2x256x32) ![0, 0, 0] ![1, 256, 32] inb_S2x256x32_S1x256x32_0_0_0)) x2 p 16 le_rfl
  rw [← trips1] at L1
  obtain ⟨w1, hw1⟩ : ∃ w1, w1 = (st_k0_t1 (F := Ideal) Variants.none c none arg0 harg0 arg1 harg1 arg2 harg2 arg3 harg3 arg4 harg4 arg5 harg5 arg6 harg6 (View.ld (Val := Elt Ideal) (e' := .f32) x0 (Rect.unit (s := S2x256x32) ![0, 0, 0] ![1, 256, 32] inb_S2x256x32_S1x256x32_0_0_0)) (harg2.unread x2) (k0_pay34, k0_pay35) k0_t1_loop.trips).2 := ⟨_, rfl⟩
  have L2 := fun p => loop2 Variants.none c none arg0 harg0 arg1 harg1 arg2 harg2 arg3 harg3 arg4 harg4 arg5 harg5 arg6 harg6 (k0_pay44 w1 (View.ld (Val := Elt Ideal) (e' := .f32) x3 (Rect.unit (s := S8192x32) ![0, 0] ![8192, 32] inb_S8192x32_S8192x32_0_0)) (View.ld (Val := Elt Ideal) (e' := .f32) x1 (Rect.unit (s := S2x256x32) ![0, 0, 0] ![1, 256, 32] inb_S2x256x32_S1x256x32_0_0_0))) (View.ld (Val := Elt Ideal) (e' := .f32) x0 (Rect.unit (s := S2x256x32) ![1, 0, 0] ![1, 256, 32] inb_S2x256x32_S1x256x32_1_0_0)) x2 p 16 le_rfl
  rw [← trips2] at L2
  obtain ⟨w2, hw2⟩ : ∃ w2, w2 = (st_k0_t2 (F := Ideal) Variants.none c none arg0 harg0 arg1 harg1 arg2 harg2 arg3 harg3 arg4 harg4 arg5 harg5 arg6 harg6 (k0_pay44 w1 (View.ld (Val := Elt Ideal) (e' := .f32) x3 (Rect.unit (s := S8192x32) ![0, 0] ![8192, 32] inb_S8192x32_S8192x32_0_0)) (View.ld (Val := Elt Ideal) (e' := .f32) x1 (Rect.unit (s := S2x256x32) ![0, 0, 0] ![1, 256, 32] inb_S2x256x32_S1x256x32_0_0_0))) (View.ld (Val := Elt Ideal) (e' := .f32) x0 (Rect.unit (s := S2x256x32) ![1, 0, 0] ![1, 256, 32] inb_S2x256x32_S1x256x32_1_0_0)) (harg2.unread x2) (k0_pay46, k0_pay47) k0_t2_loop.trips).2 := ⟨_, rfl⟩
  have hw1' : (st_k0_t1 (F := Ideal) Variants.none c none arg0 harg0 arg1 harg1 arg2 harg2 arg3 harg3 arg4 harg4 arg5 harg5 arg6 harg6 (View.ld (Val := Elt Ideal) (e' := .f32) x0 (Rect.unit (s := S2x256x32) ![0, 0, 0] ![1, 256, 32] inb_S2x256x32_S1x256x32_0_0_0)) (harg2.unread x2) (k0_pay34, k0_pay35) (Scf.trips (0#32) (Scalar.addi 0#32 16#32) 1#32)).2 = w1 := hw1.symm
  have hw2' : (st_k0_t2 (F := Ideal) Variants.none c none arg0 harg0 arg1 harg1 arg2 harg2 arg3 harg3 arg4 harg4 arg5 harg5 arg6 harg6 (k0_pay44 w1 (View.ld (Val := Elt Ideal) (e' := .f32) x3 (Rect.unit (s := S8192x32) ![0, 0] ![8192, 32] inb_S8192x32_S8192x32_0_0)) (View.ld (Val := Elt Ideal) (e' := .f32) x1 (Rect.unit (s := S2x256x32) ![0, 0, 0] ![1, 256, 32] inb_S2x256x32_S1x256x32_0_0_0))) (View.ld (Val := Elt Ideal) (e' := .f32) x0 (Rect.unit (s := S2x256x32) ![1, 0, 0] ![1, 256, 32] inb_S2x256x32_S1x256x32_1_0_0)) (harg2.unread x2) (k0_pay46, k0_pay47) (Scf.trips (0#32) (Scalar.addi 0#32 16#32) 1#32)).2 = w2 := hw2.symm
  rw [← hw1] at L1
  rw [← hw2] at L2
  have I1 := fun p => (L1 p).lt
  have I2 := fun p => (L2 p).lt
  choose j1 hj1 using I1
  choose j2 hj2 using I2
  refine ⟨![j1, j2], ?_, ?_, ?_, ?_⟩
  · refine Fin.forall_fin_two.2 ⟨fun p => ?_, fun p => ?_⟩
    · have h := L1 p
      rw [hj1 p, dist_eq x2 _ p (fun k => x0 (ix3 0 p k)) (fun k => by pointwise [k0_pay33])] at h
      exact ⟨_, h⟩
    · have h := L2 p
      rw [hj2 p, dist_eq x2 _ p (fun k => x0 (ix3 1 p k)) (fun k => by pointwise [k0_pay45])] at h
      exact ⟨_, h⟩
  · intro y
    unfold out0_A_5
    rw [View.read_writes_eq_canon _ _ _ (cover0_A_5 c arg0 harg0 arg1 harg1 arg2 harg2 arg3 harg3 arg4 harg4 arg5 harg5 arg6 harg6 x0 x1 x2 x3)]
    unfold kernelRun0_A
    dsimp only
    sl_unfold_words
    simp only [View.readAt_eq_ld, harg0.read_unread, harg1.read_unread, harg3.read_unread]
    rw [hw1', hw2']
    canon_tiles x h
    · obtain ⟨b, p, k, rfl⟩ : ∃ (b : Fin 2) (p : Fin 256) (k : Fin 1), y = ix3 b p k := ⟨y 0, y 1, y 2, eq_ix3 y⟩
      obtain ⟨b', p', k', rfl⟩ : ∃ (b' : Fin 1) (p' : Fin 256) (k' : Fin 1), x = ix3 b' p' k' := ⟨x 0, x 1, x 2, eq_ix3 x⟩
      simp only [ix3_0, ix3_1, ix3_2] at h0 h1 h2
      obtain rfl : b = 1 := Fin.ext (by have e : (b : ℕ) = 1 + (b' : ℕ) := h0; have := b'.isLt; show (b : ℕ) = 1; omega)
      obtain rfl : b' = 0 := Subsingleton.elim _ _
      obtain rfl : p = p' := Fin.ext h1
      obtain rfl : k' = 0 := Subsingleton.elim _ _
      exact (idx_out2 w2 p).trans (hj2 p)
    · obtain ⟨b, p, k, rfl⟩ : ∃ (b : Fin 2) (p : Fin 256) (k : Fin 1), y = ix3 b p k := ⟨y 0, y 1, y 2, eq_ix3 y⟩
      obtain ⟨b', p', k', rfl⟩ : ∃ (b' : Fin 1) (p' : Fin 256) (k' : Fin 1), x = ix3 b' p' k' := ⟨x 0, x 1, x 2, eq_ix3 x⟩
      simp only [ix3_0, ix3_1, ix3_2] at h0 h1 h2
      obtain rfl : b = 0 := Fin.ext (by have e : (b : ℕ) = 0 + (b' : ℕ) := h0.trans (Nat.zero_add _).symm; have := b'.isLt; show (b : ℕ) = 0; omega)
      obtain rfl : b' = 0 := Subsingleton.elim _ _
      obtain rfl : p = p' := Fin.ext h1
      obtain rfl : k' = 0 := Subsingleton.elim _ _
      exact (idx_out1 w1 p).trans (hj1 p)
  · intro y
    unfold out0_A_4
    rw [View.read_writes_eq_canon _ _ _ (cover0_A_4 c arg0 harg0 arg1 harg1 arg2 harg2 arg3 harg3 arg4 harg4 arg5 harg5 arg6 harg6 x0 x1 x2 x3)]
    unfold kernelRun0_A
    dsimp only
    sl_unfold_words
    simp only [View.readAt_eq_ld, harg0.read_unread, harg1.read_unread, harg3.read_unread]
    rw [hw1', hw2']
    canon_tiles x h
    · obtain ⟨b, p, k, rfl⟩ : ∃ (b : Fin 2) (p : Fin 256) (k : Fin 32), y = ix3 b p k := ⟨y 0, y 1, y 2, eq_ix3 y⟩
      obtain ⟨b', p', k', rfl⟩ : ∃ (b' : Fin 1) (p' : Fin 256) (k' : Fin 32), x = ix3 b' p' k' := ⟨x 0, x 1, x 2, eq_ix3 x⟩
      simp only [ix3_0, ix3_1, ix3_2] at h0 h1 h2
      obtain rfl : b = 1 := Fin.ext (by have e : (b : ℕ) = 1 + (b' : ℕ) := h0; have := b'.isLt; show (b : ℕ) = 1; omega)
      obtain rfl : b' = 0 := Subsingleton.elim _ _
      obtain rfl : p = p' := Fin.ext h1
      obtain rfl : k = k' := Fin.ext h2
      refine (st_at2 w2 _ _ _ p k).trans ?_
      rw [res_at2 w2 _ _ p k (j2 p) (hj2 p)]
      pointwise []
    · obtain ⟨b, p, k, rfl⟩ : ∃ (b : Fin 2) (p : Fin 256) (k : Fin 32), y = ix3 b p k := ⟨y 0, y 1, y 2, eq_ix3 y⟩
      obtain ⟨b', p', k', rfl⟩ : ∃ (b' : Fin 1) (p' : Fin 256) (k' : Fin 32), x = ix3 b' p' k' := ⟨x 0, x 1, x 2, eq_ix3 x⟩
      simp only [ix3_0, ix3_1, ix3_2] at h0 h1 h2
      obtain rfl : b = 0 := Fin.ext (by have e : (b : ℕ) = 0 + (b' : ℕ) := h0.trans (Nat.zero_add _).symm; have := b'.isLt; show (b : ℕ) = 0; omega)
      obtain rfl : b' = 0 := Subsingleton.elim _ _
      obtain rfl : p = p' := Fin.ext h1
      obtain rfl : k = k' := Fin.ext h2
      refine (st_at1 w1 _ _ _ p k).trans ?_
      rw [res_at1 w1 _ _ p k (j1 p) (hj1 p)]
      pointwise []
  · unfold out0_A_6
    rw [View.read_writes_eq_canon _ _ _ (cover0_A_6 c arg0 harg0 arg1 harg1 arg2 harg2 arg3 harg3 arg4 harg4 arg5 harg5 arg6 harg6 x0 x1 x2 x3)]
    unfold kernelRun0_A
    dsimp only
    sl_unfold_words
    simp only [View.readAt_eq_ld, harg0.read_unread, harg1.read_unread, harg3.read_unread]
    rw [hw1', hw2']
    canon_tiles x h
    obtain rfl : x = ix2 0 0 := by
      rw [eq_ix2 x]
      congr 1 <;> exact Subsingleton.elim _ _
    refine (sum_at2 _ w2 _ _).trans ?_
    rw [sum_at1, Fin.sum_univ_two]
    congr 1
    congr 1
    · refine Finset.sum_congr rfl fun p _ => Finset.sum_congr rfl fun k _ => ?_
      rw [res_at1 w1 _ _ p k (j1 p) (hj1 p)]
      pointwise []
    · refine Finset.sum_congr rfl fun p _ => Finset.sum_congr rfl fun k _ => ?_
      rw [res_at2 w2 _ _ p k (j2 p) (hj2 p)]
      pointwise []

end Cert.KernelIdeal.Hand
-- ==== Proof.Arrays.lean ====
/- The three result arrays after the kernel's one grid point, and what its input windows read. -/
module

public import proofs.«01_k».proof.Proof.Body

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen Cert.Hand

variable (m : (ℓ : Loc nD τ sig) → Buf (Elt Ideal) ℓ)

/-- Input window 0 reads its whole array. -/
theorem iblk_0 (c : Dev nD) : (iblk m c 0 t0_0 : Vec Ideal S2x256x32 .f32) = V m c main_v3 := by
  have hz : (fun a => win0_0.index t0_0 a * main_v3.ty.shape.size a) = fun _ => 0 := funext fun a => by fin_cases a <;> decide
  exact Memref.read_access_unit_zero (Elt Ideal) main_v3 hz (fun a => by rw [congrFun hz a]; simp) (V m c main_v3)

/-- Input window 1 reads its whole array. -/
theorem iblk_1 (c : Dev nD) : (iblk m c 1 t0_0 : Vec Ideal S2x256x32 .f32) = V m c main_v4 := by
  have hz : (fun a => win0_1.index t0_0 a * main_v4.ty.shape.size a) = fun _ => 0 := funext fun a => by fin_cases a <;> decide
  exact Memref.read_access_unit_zero (Elt Ideal) main_v4 hz (fun a => by rw [congrFun hz a]; simp) (V m c main_v4)

/-- Input window 2 reads its whole array. -/
theorem iblk_2 (c : Dev nD) : (iblk m c 2 t0_0 : Vec Ideal S32x8192 .f32) = V m c main_v5 := by
  have hz : (fun a => win0_2.index t0_0 a * main_v5.ty.shape.size a) = fun _ => 0 := funext fun a => by fin_cases a <;> decide
  exact Memref.read_access_unit_zero (Elt Ideal) main_v5 hz (fun a => by rw [congrFun hz a]; simp) (V m c main_v5)

/-- Input window 3 reads its whole array. -/
theorem iblk_3 (c : Dev nD) : (iblk m c 3 t0_0 : Vec Ideal S8192x32 .f32) = V m c main_arg1 := by
  have hz : (fun a => win0_3.index t0_0 a * main_arg1.ty.shape.size a) = fun _ => 0 := funext fun a => by fin_cases a <;> decide
  exact Memref.read_access_unit_zero (Elt Ideal) main_arg1 hz (fun a => by rw [congrFun hz a]; simp) (V m c main_arg1)

/-- Result array 1 ends as what the body left at the one point. -/
theorem arr_4 (c : Dev nD) : ((dats m 0 c).arrAt 4 cfg0.N : Vec Ideal S2x256x32 .f32) = (outsAt0 m c t0_0).1 := by
  refine (dats m 0 c).arrAt_eq_of_cover 4 (outsAt0 m c t0_0).1 (fun t _ => ?_) fun i => ⟨t0_0, flush0_4 t0_0, ?_⟩
  · obtain rfl : t = t0_0 := fin_N0 t
    show (cfg0.win 4).cut (grid0.coords t0_0) ((dats m 0 c).after 4 t0_0) = _
    rw [after0_4]
    have hz : (fun a => win0_4.index t0_0 a * main_v6_0.ty.shape.size a) = fun _ => 0 := funext fun a => by fin_cases a <;> decide
    exact (Memref.read_access_unit_zero (Elt Ideal) main_v6_0 hz (fun a => by rw [congrFun hz a]; simp) (outsAt0 m c t0_0).1).symm
  · show i ∈ ((View.whole main_v6_0).slice (win0_4.rect t0_0)).set
    rw [View.set_slice_whole, Rect.mem_set_unit]
    intro a
    have h0 : (i 0 : Nat) < 2 := (i 0).isLt
    have h1 : (i 1 : Nat) < 256 := (i 1).isLt
    have h2 : (i 2 : Nat) < 32 := (i 2).isLt
    match a with
    | ⟨0, _⟩ =>
      show win0_4.index t0_0 0 * win0_4.size 0 ≤ (i 0 : Nat) ∧ (i 0 : Nat) < win0_4.index t0_0 0 * win0_4.size 0 + win0_4.xsize (grid0.coords t0_0) 0
      rw [show win0_4.index t0_0 0 * win0_4.size 0 = 0 from by decide +kernel, show win0_4.xsize (grid0.coords t0_0) 0 = 2 from by decide +kernel]
      omega
    | ⟨1, _⟩ =>
      show win0_4.index t0_0 1 * win0_4.size 1 ≤ (i 1 : Nat) ∧ (i 1 : Nat) < win0_4.index t0_0 1 * win0_4.size 1 + win0_4.xsize (grid0.coords t0_0) 1
      rw [show win0_4.index t0_0 1 * win0_4.size 1 = 0 from by decide +kernel, show win0_4.xsize (grid0.coords t0_0) 1 = 256 from by decide +kernel]
      omega
    | ⟨2, _⟩ =>
      show win0_4.index t0_0 2 * win0_4.size 2 ≤ (i 2 : Nat) ∧ (i 2 : Nat) < win0_4.index t0_0 2 * win0_4.size 2 + win0_4.xsize (grid0.coords t0_0) 2
      rw [show win0_4.index t0_0 2 * win0_4.size 2 = 0 from by decide +kernel, show win0_4.xsize (grid0.coords t0_0) 2 = 32 from by decide +kernel]
      omega

/-- Result array 2 ends as what the body left at the one point. -/
theorem arr_5 (c : Dev nD) : ((dats m 0 c).arrAt 5 cfg0.N : Vec Ideal S2x256x1 .i32) = (outsAt0 m c t0_0).2.1 := by
  refine (dats m 0 c).arrAt_eq_of_cover 5 (outsAt0 m c t0_0).2.1 (fun t _ => ?_) fun i => ⟨t0_0, flush0_5 t0_0, ?_⟩
  · obtain rfl : t = t0_0 := fin_N0 t
    show (cfg0.win 5).cut (grid0.coords t0_0) ((dats m 0 c).after 5 t0_0) = _
    rw [after0_5]
    have hz : (fun a => win0_5.index t0_0 a * main_v6_1.ty.shape.size a) = fun _ => 0 := funext fun a => by fin_cases a <;> decide
    exact (Memref.read_access_unit_zero (Elt Ideal) main_v6_1 hz (fun a => by rw [congrFun hz a]; simp) (outsAt0 m c t0_0).2.1).symm
  · show i ∈ ((View.whole main_v6_1).slice (win0_5.rect t0_0)).set
    rw [View.set_slice_whole, Rect.mem_set_unit]
    intro a
    have h0 : (i 0 : Nat) < 2 := (i 0).isLt
    have h1 : (i 1 : Nat) < 256 := (i 1).isLt
    have h2 : (i 2 : Nat) < 1 := (i 2).isLt
    match a with
    | ⟨0, _⟩ =>
      show win0_5.index t0_0 0 * win0_5.size 0 ≤ (i 0 : Nat) ∧ (i 0 : Nat) < win0_5.index t0_0 0 * win0_5.size 0 + win0_5.xsize (grid0.coords t0_0) 0
      rw [show win0_5.index t0_0 0 * win0_5.size 0 = 0 from by decide +kernel, show win0_5.xsize (grid0.coords t0_0) 0 = 2 from by decide +kernel]
      omega
    | ⟨1, _⟩ =>
      show win0_5.index t0_0 1 * win0_5.size 1 ≤ (i 1 : Nat) ∧ (i 1 : Nat) < win0_5.index t0_0 1 * win0_5.size 1 + win0_5.xsize (grid0.coords t0_0) 1
      rw [show win0_5.index t0_0 1 * win0_5.size 1 = 0 from by decide +kernel, show win0_5.xsize (grid0.coords t0_0) 1 = 256 from by decide +kernel]
      omega
    | ⟨2, _⟩ =>
      show win0_5.index t0_0 2 * win0_5.size 2 ≤ (i 2 : Nat) ∧ (i 2 : Nat) < win0_5.index t0_0 2 * win0_5.size 2 + win0_5.xsize (grid0.coords t0_0) 2
      rw [show win0_5.index t0_0 2 * win0_5.size 2 = 0 from by decide +kernel, show win0_5.xsize (grid0.coords t0_0) 2 = 1 from by decide +kernel]
      omega

/-- Result array 3 ends as what the body left at the one point. -/
theorem arr_6 (c : Dev nD) : ((dats m 0 c).arrAt 6 cfg0.N : Vec Ideal S1x1 .f32) = (outsAt0 m c t0_0).2.2 := by
  refine (dats m 0 c).arrAt_eq_of_cover 6 (outsAt0 m c t0_0).2.2 (fun t _ => ?_) fun i => ⟨t0_0, flush0_6 t0_0, ?_⟩
  · obtain rfl : t = t0_0 := fin_N0 t
    show (cfg0.win 6).cut (grid0.coords t0_0) ((dats m 0 c).after 6 t0_0) = _
    rw [after0_6]
    have hz : (fun a => win0_6.index t0_0 a * main_v6_2.ty.shape.size a) = fun _ => 0 := funext fun a => by fin_cases a <;> decide
    exact (Memref.read_access_unit_zero (Elt Ideal) main_v6_2 hz (fun a => by rw [congrFun hz a]; simp) (outsAt0 m c t0_0).2.2).symm
  · show i ∈ ((View.whole main_v6_2).slice (win0_6.rect t0_0)).set
    rw [View.set_slice_whole, Rect.mem_set_unit]
    intro a
    have h0 : (i 0 : Nat) < 1 := (i 0).isLt
    have h1 : (i 1 : Nat) < 1 := (i 1).isLt
    match a with
    | ⟨0, _⟩ =>
      show win0_6.index t0_0 0 * win0_6.size 0 ≤ (i 0 : Nat) ∧ (i 0 : Nat) < win0_6.index t0_0 0 * win0_6.size 0 + win0_6.xsize (grid0.coords t0_0) 0
      rw [show win0_6.index t0_0 0 * win0_6.size 0 = 0 from by decide +kernel, show win0_6.xsize (grid0.coords t0_0) 0 = 1 from by decide +kernel]
      omega
    | ⟨1, _⟩ =>
      show win0_6.index t0_0 1 * win0_6.size 1 ≤ (i 1 : Nat) ∧ (i 1 : Nat) < win0_6.index t0_0 1 * win0_6.size 1 + win0_6.xsize (grid0.coords t0_0) 1
      rw [show win0_6.index t0_0 1 * win0_6.size 1 = 0 from by decide +kernel, show win0_6.xsize (grid0.coords t0_0) 1 = 1 from by decide +kernel]
      omega

/-- The input with its channel axis last. -/
def zpK (z : FVec Ideal S2x32x16x16 .f32) : FVec Ideal S2x16x16x32 .f32 :=
  transpose S2x16x16x32 [0, 2, 3, 1] z transposes_S2x32x16x16_S2x16x16x32_0_2_3_1

/-- The columns whose nearest rows are looked for: the flat input read as 32 by 256, transposed. -/
def zsK (z : FVec Ideal S2x32x16x16 .f32) : FVec Ideal S2x256x32 .f32 :=
  transpose S2x256x32 [0, 2, 1]
    (shapeCast S2x32x256 (shapeCast S2x8192 (zpK z) shapeCasts_S2x16x16x32_S2x8192) shapeCasts_S2x8192_S2x32x256)
    transposes_S2x32x256_S2x256x32_0_2_1

/-- The points that are quantised: the input, one row of channels a point. -/
def znK (z : FVec Ideal S2x32x16x16 .f32) : FVec Ideal S2x256x32 .f32 :=
  shapeCast S2x256x32 (zpK z) shapeCasts_S2x16x16x32_S2x256x32

/-- The codebook, a row a column. -/
def etK (e : FVec Ideal S8192x32 .f32) : FVec Ideal S32x8192 .f32 :=
  transpose S32x8192 [1, 0] e transposes_S8192x32_S32x8192_1_0

/-- The first input array holds the columns whose nearest rows are looked for. -/
theorem V_zs (c : Dev nD) : V m c main_v3 = zsK (m (c.tc.loc main_arg0)) := by
  entry_read
  rfl

/-- The second input array holds the points. -/
theorem V_zn (c : Dev nD) : V m c main_v4 = znK (m (c.tc.loc main_arg0)) := by
  entry_read
  rfl

/-- The third input array holds the codebook, a row a column. -/
theorem V_et (c : Dev nD) : V m c main_v5 = etK (m (c.tc.loc main_arg1)) := by
  entry_read
  rfl

/-- The windows' arrays are seven different ones. -/
theorem arr_inj : Function.Injective (Pipeline.arrRef spec0) := by decide

/-- After the region, a result array holds what the pipeline wrote back. -/
theorem tail_arr (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arr_inj c (V0 m c) _ w

/-- The quantised result: the points' entries read as 2 by 16 by 16 by 32, channels second. -/
def outK (q : FVec Ideal S2x256x32 .f32) : FVec Ideal S2x32x16x16 .f32 :=
  transpose S2x32x16x16 [0, 3, 1, 2] (shapeCast S2x16x16x32 q shapeCasts_S2x256x32_S2x16x16x32)
    transposes_S2x16x16x32_S2x32x16x16_0_3_1_2

/-- The index result. -/
def idxK (i : IVec S2x256x1 32) : IVec S2x16x16 32 := shapeCast S2x16x16 i shapeCasts_S2x256x1_S2x16x16

/-- The loss result. -/
def lossK (l : FVec Ideal S1x1 .f32) : FVec Ideal S_ .f32 := shapeCast S_ l shapeCasts_S1x1_S_

/-- The quantised result ends as the first block, reshaped. -/
theorem tail_out (c : Dev nD) :
    Pipeline.afterTail₀ cfgs (dats m) 0 (V0 m) [hostOps1] c main_v8 = outK (outsAt0 m c t0_0).1 := by
  have e : Pipeline.withArrays spec0 c (V0 m c) (fun w => (dats m 0 c).arrAt w cfg0.N) (Proc.devRef .tc main_v6_0) = (outsAt0 m c t0_0).1 :=
    (tail_arr m c 4).trans (arr_4 m c)
  unfold Pipeline.afterTail₀ outK
  rw [← e]
  after_results
  rfl

/-- The index result ends as the second block, reshaped. -/
theorem tail_idx (c : Dev nD) :
    Pipeline.afterTail₀ cfgs (dats m) 0 (V0 m) [hostOps1] c main_v9 = idxK (outsAt0 m c t0_0).2.1 := by
  have e : Pipeline.withArrays spec0 c (V0 m c) (fun w => (dats m 0 c).arrAt w cfg0.N) (Proc.devRef .tc main_v6_1) = (outsAt0 m c t0_0).2.1 :=
    (tail_arr m c 5).trans (arr_5 m c)
  unfold Pipeline.afterTail₀ idxK
  rw [← e]
  after_results
  rfl

/-- The loss result ends as the third block's entry. -/
theorem tail_loss (c : Dev nD) :
    Pipeline.afterTail₀ cfgs (dats m) 0 (V0 m) [hostOps1] c main_v10 = lossK (outsAt0 m c t0_0).2.2 := by
  have e : Pipeline.withArrays spec0 c (V0 m c) (fun w => (dats m 0 c).arrAt w cfg0.N) (Proc.devRef .tc main_v6_2) = (outsAt0 m c t0_0).2.2 :=
    (tail_arr m c 6).trans (arr_6 m c)
  unfold Pipeline.afterTail₀ lossK
  rw [← e]
  after_results
  rfl

/-- The kernel ends with its three results reshaped from what the body left. -/
theorem run (ρ : Dev nD → PrngReg) :
    θ_run (defs (F := Ideal)) (onTc (τ := τ) (main (F := Ideal))) ⟨m, fun _ => 0, ρ⟩ (fun r => ∀ c : Dev nD,
      r.2.mem (c.tc.loc main_v8) = outK (outsAt0 m c t0_0).1
      ∧ r.2.mem (c.tc.loc main_v9) = idxK (outsAt0 m c t0_0).2.1
      ∧ r.2.mem (c.tc.loc main_v10) = lossK (outsAt0 m c t0_0).2.2) :=
  (θ_run defs _ _).mono (fun _ h c =>
    ⟨((h c).2 main_v8 (Pipeline.mem_restRefs_of main_v8 (by decide) (by decide))).trans (tail_out m c),
      ((h c).2 main_v9 (Pipeline.mem_restRefs_of main_v9 (by decide) (by decide))).trans (tail_idx m c),
      ((h c).2 main_v10 (Pipeline.mem_restRefs_of main_v10 (by decide) (by decide))).trans (tail_loss m c)⟩)
    (run_main m ρ)

end Cert.KernelIdeal.Hand
-- ==== Proof.RefRun.lean ====
/- The reference's run: its three results as named functions of its two arguments, and its frame. -/
module

public import proofs.«01_k».proof.Defs
public import proofs.«01_k».proof.Proof.Gen.ReferenceIdeal
public import Idealize.ShloMosaic.Lib.Claim
public import Idealize.ShloMosaic.Lib.Quiescent
public import Idealize.ShloMosaic.Lib.Tactic.CleanTypes
public import Idealize.ShloMosaic.Lib.StableHlo.RunHlo

@[expose] public section

set_option maxRecDepth 16384

noncomputable section

namespace Cert.ReferenceIdeal.Hand

open Idealize.ShloMosaic Idealize.ShloMosaic.TcCoe Idealize.SL.Sem
open Cert.ReferenceIdeal.Facts₀

/-- The input with its channel axis last. -/
def zpR (z : FVec Ideal S2x32x16x16 .f32) : FVec Ideal S2x16x16x32 .f32 :=
  transpose S2x16x16x32 [0, 2, 3, 1] z transposes_S2x32x16x16_S2x16x16x32_0_2_3_1

/-- The differences of every codebook row and every column of the input read as 2 by 32 by 16 by 16. -/
def diffR (z : FVec Ideal S2x32x16x16 .f32) (e : FVec Ideal S8192x32 .f32) : FVec Ideal S2x8192x32x16x16 .f32 :=
  subf
    (broadcastInDim S2x8192x32x16x16 ![0, 1, 2, 3, 4] bcast_S1x8192x32x1x1_S2x8192x32x16x16_0_1_2_3_4
      (shapeCast S1x8192x32x1x1 e shapeCasts_S8192x32_S1x8192x32x1x1))
    (broadcastInDim S2x8192x32x16x16 ![0, 1, 2, 3, 4] bcast_S2x1x32x16x16_S2x8192x32x16x16_0_1_2_3_4
      (shapeCast S2x1x32x16x16 (zpR z) shapeCasts_S2x16x16x32_S2x1x32x16x16))

/-- The squared distances of every column to every codebook row. -/
def distR (z : FVec Ideal S2x32x16x16 .f32) (e : FVec Ideal S8192x32 .f32) : FVec Ideal S2x8192x16x16 .f32 :=
  Host.reduceAdd (mulf (diffR z e) (diffR z e)) (constant S_ .f32 0x00000000#32)
    reducesTo_S2x8192x32x16x16_S2x8192x16x16_d2 h_S_

/-- The second halves of the host's fold of pairs by the reducer that keeps the lesser. -/
def argIdx {s t u : Shape} {axes : List (Fin s.rank)} (x : FVec Ideal s .f32) (y : IVec s 32) (ix : FVec Ideal u .f32) (iy : IVec u 32)
    (h : s.ReducesTo axes t) (hu : 0 < u.numel) : IVec t 32 :=
  fun j => (Host.argReduce (reducer_argmin_f32_i32 (F := Ideal)) x y ix iy h hu j).2

/-- The index of the nearest row, over an array of distances. -/
def idxR (d : FVec Ideal S2x8192x16x16 .f32) : IVec S2x16x16 32 :=
  argIdx d (iotaInDim S2x8192x16x16 32 1) (constant S_ .f32 0x7F800000#32) (constantI S_ 32 0#32)
    reducesTo_S2x8192x16x16_S2x16x16_d1 h_S_

/-- The indices `jnp.take` reads at: a negative one has the row count added. -/
def wrapR (i : IVec S2x16x16 32) : IVec S2x16x16x1 32 :=
  broadcastInDim S2x16x16x1 ![0, 1, 2] bcast_S2x16x16_S2x16x16x1_0_1_2
    (select (cmpi .slt i (broadcastInDim S2x16x16 ![] bcast_S_S2x16x16 (constantI S_ 32 0#32)))
      (addi i (broadcastInDim S2x16x16 ![] bcast_S_S2x16x16 (constantI S_ 32 8192#32))) i)

/-- Whether such an index is that of a row. -/
def okR (w : IVec S2x16x16x1 32) : IVec S2x16x16 1 :=
  Host.reduce IntOp.andi
    (andi (cmpi .sge w (broadcastInDim S2x16x16x1 ![] bcast_S_S2x16x16x1 (constantI S_ 32 0#32)))
      (cmpi .sle w (broadcastInDim S2x16x16x1 ![0, 1, 2, 3] bcast_S1x1x1x1_S2x16x16x1_0_1_2_3
        (broadcastInDim S1x1x1x1 ![3] bcast_S1_S1x1x1x1_3 (constantI S1 32 8191#32)))))
    (constantI S_ 1 1#1) reducesTo_S2x16x16x1_S2x16x16_d3 h_S_

/-- `jnp.take` of codebook rows. -/
def takeR (e : FVec Ideal S8192x32 .f32) (i : IVec S2x16x16 32) : FVec Ideal S2x16x16x32 .f32 :=
  select (broadcastInDim S2x16x16x32 ![0, 1, 2] bcast_S2x16x16_S2x16x16x32_0_1_2 (okR (wrapR i)))
    (Host.gather gather_S8192x32_S2x16x16x1_S2x16x16x32_3_0_n_n_0_3_132 e (wrapR i))
    (broadcastInDim S2x16x16x32 ![] bcast_S_S2x16x16x32 (constant S_ .f32 0x7FC00000#32))

/-- The mean of the squares of an array of 16384 entries. -/
def meanR (d : FVec Ideal S2x16x16x32 .f32) : FVec Ideal S_ .f32 :=
  Host.divf (Host.reduceAdd (mulf d d) (constant S_ .f32 0x00000000#32) reducesTo_S2x16x16x32_S_d0_1_2_3 h_S_)
    (constant S_ .f32 0x46800000#32)

/-- The loss, over the rows taken and the input. -/
def lossR (q zp : FVec Ideal S2x16x16x32 .f32) : FVec Ideal S_ .f32 :=
  addf (meanR (subf q zp)) (mulf (constant S_ .f32 0x3E800000#32) (meanR (subf q zp)))

/-- The quantised input, channels second, over the rows taken and the input. -/
def outR (q zp : FVec Ideal S2x16x16x32 .f32) : FVec Ideal S2x32x16x16 .f32 :=
  transpose S2x32x16x16 [0, 3, 1, 2] (addf zp (subf q zp)) transposes_S2x16x16x32_S2x32x16x16_0_3_1_2

/-- The reference ends with its three results holding the functions above of its arguments, which are left as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v22)
          = outR (takeR (m ((c.tc : Thread nD τ).loc main_arg1)) (idxR (distR (m ((c.tc : Thread nD τ).loc main_arg0)) (m ((c.tc : Thread nD τ).loc main_arg1)))))
              (zpR (m ((c.tc : Thread nD τ).loc main_arg0)))
      ∧ r.2.mem ((c.tc : Thread nD τ).loc main_v8)
          = idxR (distR (m ((c.tc : Thread nD τ).loc main_arg0)) (m ((c.tc : Thread nD τ).loc main_arg1)))
      ∧ r.2.mem ((c.tc : Thread nD τ).loc main_v19)
          = lossR (takeR (m ((c.tc : Thread nD τ).loc main_arg1)) (idxR (distR (m ((c.tc : Thread nD τ).loc main_arg0)) (m ((c.tc : Thread nD τ).loc main_arg1)))))
              (zpR (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals simp only [StableHlo.TRef.ofBuf_toBuf]
  all_goals simp -implicitDefEqProofs only [StableHlo.TRef.toBuf, StableHlo.TRef.ofBuf, cast_eq]
  · rfl
  · rfl
  · rfl

end Cert.ReferenceIdeal.Hand

namespace Cert.Proof

open Idealize.ShloMosaic Idealize.ShloMosaic.TcCoe Idealize.SL.Sem

/-- The reference leaves its arguments as they were and every counter at zero. -/
theorem frame_reference : Cert.quiescent_ReferenceIdeal := fun m g _ =>
  (θ_run Cert.ReferenceIdeal.defs _ _).mono (fun r h => ⟨fun c => (h c).2.2.2,
      Idealize.ShloMosaic.sem_eq_zero_of_no_sems (by decide) r.2⟩)
    (Cert.ReferenceIdeal.Hand.run m g)

end Cert.Proof
-- ==== Proof.RefValue.lean ====
/- The reference's functions read at an index: the nearest row's number, the row taken, the loss. -/
module

public import proofs.«01_k».proof.Proof.RefRun
public import proofs.«01_k».proof.Proof.Math

@[expose] public section

set_option maxRecDepth 16384

noncomputable section

namespace Cert.ReferenceIdeal.Hand

open Idealize.ShloMosaic Idealize.ShloMosaic.TcCoe Idealize.ShloMosaic.Tactic Idealize.SL.Sem
open Cert.ReferenceIdeal Cert.Hand
open Cert.ReferenceIdeal.Facts₀

/-! ## The nearest row -/

/-- The order of the reducer's pairs: by the value, then by the signed index. -/
def PairLe (a b : EReal × BitVec 32) : Prop := a.1 < b.1 ∨ a.1 = b.1 ∧ a.2.toInt ≤ b.2.toInt

/-- A pair is at most itself. -/
theorem PairLe.refl (a : EReal × BitVec 32) : PairLe a a := .inr ⟨rfl, le_rfl⟩

/-- The order of pairs is transitive. -/
theorem PairLe.trans (a b c : EReal × BitVec 32) (h : PairLe a b) (h' : PairLe b c) : PairLe a c := by
  rcases h with h | ⟨e, h⟩
  · rcases h' with h' | ⟨e', h'⟩
    · exact .inl (h.trans h')
    · exact .inl (e' ▸ h)
  · rcases h' with h' | ⟨e', h'⟩
    · exact .inl (e ▸ h')
    · exact .inr ⟨e.trans e', h.trans h'⟩

/-- The reducer keeps the first pair where it is below the second, and the second elsewhere. -/
theorem reducer_eq (a b : EReal × BitVec 32) :
    reducer_argmin_f32_i32 (F := Ideal) a b = if a.1 < b.1 ∨ a.1 = b.1 ∧ a.2.toInt < b.2.toInt then a else b := by
  obtain ⟨v, i⟩ := a
  obtain ⟨w, j⟩ := b
  by_cases h : v < w
  · have one : ∀ x : BitVec 1, 1#1 ||| x = 1#1 := by decide
    simp [reducer_argmin_f32_i32, h, one, Ideal.cmpf_def, Ideal.cmp, Scalar.select, IntOp.ori, IntOp.andi, IntOp.cmpi]
  · by_cases e : v = w
    · subst e
      by_cases g : i.toInt < j.toInt
      · simp [reducer_argmin_f32_i32, g, Ideal.cmpf_def, Ideal.cmp, Scalar.select, IntOp.ori, IntOp.andi, IntOp.cmpi, BitVec.slt]
      · simp [reducer_argmin_f32_i32, g, Ideal.cmpf_def, Ideal.cmp, Scalar.select, IntOp.ori, IntOp.andi, IntOp.cmpi, BitVec.slt]
    · simp [reducer_argmin_f32_i32, h, e, Ideal.cmpf_def, Ideal.cmp, Scalar.select, IntOp.ori, IntOp.andi, IntOp.cmpi]

/-- It returns one of its two pairs, below both. -/
theorem reducer_least (a b : EReal × BitVec 32) :
    (reducer_argmin_f32_i32 (F := Ideal) a b = a ∨ reducer_argmin_f32_i32 (F := Ideal) a b = b)
      ∧ PairLe (reducer_argmin_f32_i32 (F := Ideal) a b) a ∧ PairLe (reducer_argmin_f32_i32 (F := Ideal) a b) b := by
  rw [reducer_eq]
  by_cases h : a.1 < b.1 ∨ a.1 = b.1 ∧ a.2.toInt < b.2.toInt
  · rw [if_pos h]
    refine ⟨.inl rfl, .refl _, ?_⟩
    rcases h with h | ⟨e, h⟩
    · exact .inl h
    · exact .inr ⟨e, h.le⟩
  · rw [if_neg h]
    refine ⟨.inr rfl, ?_, .refl _⟩
    rw [not_or, not_and] at h
    rcases lt_or_eq_of_le (not_lt.1 h.1) with g | g
    · exact .inl g
    · exact .inr ⟨g, not_lt.1 (h.2 g.symm)⟩

/-- The host's fold of that reducer over a fiber: one of the fiber's pairs or the initial one, below all of them. -/
theorem arg_least {s t u : Shape} {axes : List (Fin s.rank)} (x : FVec Ideal s .f32) (y : IVec s 32)
    (ix : FVec Ideal u .f32) (iy : IVec u 32) (h : s.ReducesTo axes t) (hu : 0 < u.numel) (j : t.Idx)
    (hx : ix (Shape.Idx.first hu) = (⊤ : EReal)) (hy : iy (Shape.Idx.first hu) = 0#32) :
    ∃ r : EReal × BitVec 32, argIdx x y ix iy h hu j = r.2
      ∧ (r = (⊤, 0#32) ∨ ∃ i, h.drop i = j ∧ r = (x i, y i)) ∧ PairLe r (⊤, 0#32)
      ∧ ∀ i, h.drop i = j → PairLe r (x i, y i) := by
  have key := foldl_least (reducer_argmin_f32_i32 (F := Ideal)) PairLe .refl .trans reducer_least
    (Host.argReduceFiber x y h j) (⊤, 0#32)
  have mem : ∀ p, p ∈ Host.argReduceFiber x y h j ↔ ∃ i, h.drop i = j ∧ p = (x i, y i) := by
    intro p
    unfold Host.argReduceFiber
    simp only [List.mem_map, List.mem_filter, List.mem_finRange, true_and, decide_eq_true_eq]
    constructor
    · rintro ⟨n, hn, rfl⟩
      exact ⟨_, hn, rfl⟩
    · rintro ⟨i, hi, rfl⟩
      exact ⟨s.rowMajor i, by rw [Equiv.symm_apply_apply]; exact hi, by rw [Equiv.symm_apply_apply]⟩
  refine ⟨_, rfl, ?_⟩
  rw [Ideal.argReduce_eq_reduce2, Host.reduce2_eq_foldl_fiber, hx, hy]
  exact ⟨key.1.imp id fun g => (mem _).1 g, key.2.1, fun i hi => key.2.2 _ ((mem _).2 ⟨i, hi, rfl⟩)⟩

/-- The source indices that drop to an index when the second of four axes is reduced. -/
theorem fiber_second {n0 n1 n2 n3 : ℕ} (h : (⟨4, ![n0, n1, n2, n3]⟩ : Shape).ReducesTo [1] ⟨3, ![n0, n2, n3]⟩)
    (a : Fin n0) (b : Fin n2) (c : Fin n3) (i : (⟨4, ![n0, n1, n2, n3]⟩ : Shape).Idx) :
    h.drop i = ix3 a b c ↔ ∃ k : Fin n1, ix4 a k b c = i :=
  Shape.ReducesTo.fiber_r4_a1 h (ix3 a b c) i

/-- The reference's index is that of the least distance, the first of equal ones. -/
theorem idx_least (d : FVec Ideal S2x8192x16x16 .f32) (b : Fin 2) (h w : Fin 16) :
    ∃ v, IsLeast (fun k => d (ix4 b k h w)) 8192 v (idxR d (ix3 b h w)) := by
  have top : constant (F := Ideal) S_ .f32 0x7F800000#32 (Shape.Idx.first h_S_) = (⊤ : EReal) := by
    show Ideal.ofBits .f32 0x7F800000#32 = ⊤
    simp [Ideal.ofBits, Ideal.ieee]
  obtain ⟨r, hr, hmem, htop, hall⟩ := arg_least d (iotaInDim S2x8192x16x16 32 1) (constant S_ .f32 0x7F800000#32)
    (constantI S_ 32 0#32) reducesTo_S2x8192x16x16_S2x16x16_d1 h_S_ (ix3 b h w) top rfl
  have fib : ∀ i, reducesTo_S2x8192x16x16_S2x16x16_d1.drop i = ix3 b h w ↔ ∃ k : Fin 8192, ix4 b k h w = i := fun i =>
    fiber_second reducesTo_S2x8192x16x16_S2x16x16_d1 b h w i
  unfold idxR
  rw [hr]
  have iot : ∀ k : Fin 8192, iotaInDim S2x8192x16x16 32 1 (ix4 b k h w) = BitVec.ofNat 32 k.val := fun k => rfl
  have small : ∀ k : Fin 8192, (BitVec.ofNat 32 k.val).toInt = (k.val : ℤ) := fun k => toInt_ofNat k.val (by omega)
  have sr : ∃ a : ℕ, a < 8192 ∧ r.2 = BitVec.ofNat 32 a ∧ r.2.toInt = (a : ℤ)
      ∧ ((r.1 = ⊤ ∧ a = 0) ∨ ∃ j : Fin 8192, j.val < 8192 ∧ r.1 = d (ix4 b j h w) ∧ a = j.val) := by
    rcases hmem with rfl | hm
    · exact ⟨0, by decide, rfl, rfl, .inl ⟨rfl, rfl⟩⟩
    · obtain ⟨i, hi, rfl⟩ := hm
      obtain ⟨k, rfl⟩ := (fib i).1 hi
      rw [iot k]
      exact ⟨k.val, k.isLt, rfl, small k, .inr ⟨k, k.isLt, rfl, rfl⟩⟩
  obtain ⟨a, _, ha, ha', hcase⟩ := sr
  refine ⟨r.1, a, ha, hcase, ?_, fun k _ => ?_⟩
  · rcases htop with g | ⟨g, g'⟩
    · exact .inl g
    · refine .inr ⟨g, ?_⟩
      rw [ha'] at g'
      exact Int.ofNat_le.1 g'
  · rcases hall _ ((fib _).2 ⟨k, rfl⟩) with g | ⟨g, g'⟩
    · exact .inl g
    · refine .inr ⟨g, ?_⟩
      rw [ha', iot k, small k] at g'
      exact Int.ofNat_le.1 g'

/-! ## The rows taken -/

/-- A row's number is used as it is. -/
theorem wrap_at (i : IVec S2x16x16 32) (b : Fin 2) (h w : Fin 16) (j : Fin 8192) (hj : i (ix3 b h w) = BitVec.ofNat 32 j.val) :
    wrapR i (ix4 b h w 0) = BitVec.ofNat 32 j.val := by
  pointwise [wrapR]
  rw [hj]
  have e : IntOp.cmpi CmpIPredicate.slt (BitVec.ofNat 32 j.val) 0#32 = 0#1 := by
    simp only [IntOp.cmpi, BitVec.slt, toInt_ofNat j.val (by omega), BitVec.toInt_zero]
    rw [decide_eq_false (by omega)]
    rfl
  rw [e]
  rfl

/-- A row's number is in range. -/
theorem ok_at (i : IVec S2x16x16 32) (b : Fin 2) (h w : Fin 16) (j : Fin 8192) (hj : i (ix3 b h w) = BitVec.ofNat 32 j.val) :
    okR (wrapR i) (ix3 b h w) = 1#1 := by
  pointwise [okR]
  have e1 : IntOp.cmpi CmpIPredicate.sge (BitVec.ofNat 32 j.val) 0#32 = 1#1 := by
    simp [IntOp.cmpi, BitVec.sle, toInt_ofNat j.val (by omega)]
  have e2 : IntOp.cmpi CmpIPredicate.sle (BitVec.ofNat 32 j.val) 8191#32 = 1#1 := by
    have : (8191#32).toInt = 8191 := by decide
    simp only [IntOp.cmpi, BitVec.sle, toInt_ofNat j.val (by omega), this]
    rw [decide_eq_true (by omega)]
    rfl
  rw [show (Finset.univ : Finset (Fin 1)) = {0} from rfl, Finset.fold_singleton, wrap_at i b h w j hj, e1, e2]
  rfl

/-- The gather reads the row an index numbers. -/
theorem gather_at (e : FVec Ideal S8192x32 .f32) (i : IVec S2x16x16x1 32) (b : Fin 2) (h w : Fin 16) (k : Fin 32) (j : Fin 8192)
    (hj : i (ix4 b h w 0) = BitVec.ofNat 32 j.val) :
    Host.gather gather_S8192x32_S2x16x16x1_S2x16x16x32_3_0_n_n_0_3_132 e i (ix4 b h w k) = e (ix2 j k) := by
  unfold Host.gather
  refine congrArg e (funext fun a => Fin.ext ?_)
  match a with
  | ⟨0, _⟩ =>
    show min (i _).toInt.toNat 8191 + 0 + 0 = j.val
    have hi : ∀ x, x = ix4 b h w 0 → min (i x).toInt.toNat 8191 + 0 + 0 = j.val := by
      rintro x rfl
      rw [hj, toInt_ofNat j.val (by omega)]
      omega
    refine hi _ (funext fun a => ?_)
    fin_cases a <;> rfl
  | ⟨1, _⟩ =>
    show 0 + 0 + k.val = k.val
    omega

/-- `jnp.take` at a row's number is that row. -/
theorem take_at (e : FVec Ideal S8192x32 .f32) (i : IVec S2x16x16 32) (b : Fin 2) (h w : Fin 16) (k : Fin 32)  (j : Fin 8192)
    (hj : i (ix3 b h w) = BitVec.ofNat 32 j.val) :
    takeR e i (ix4 b h w k) = e (ix2 j k) := by
  pointwise [takeR]
  rw [ok_at i b h w j hj, gather_at e _ b h w k j (wrap_at i b h w j hj)]
  rfl

/-! ## The results -/

/-- An entry of the reference's quantised result. -/
theorem out_atR (q zp : FVec Ideal S2x16x16x32 .f32) (b : Fin 2) (h w : Fin 16) (k : Fin 32) :
    outR q zp (ix4 b k h w) = zp (ix4 b h w k) + (q (ix4 b h w k) - zp (ix4 b h w k)) := by
  pointwise [outR]

/-- The mean of squares: their sum over 16384. -/
theorem mean_at (d : FVec Ideal S2x16x16x32 .f32) (i : S_.Idx)  :
    meanR d i = Ideal.div (∑ b : Fin 2, ∑ h : Fin 16, ∑ w : Fin 16, ∑ k : Fin 32, d (ix4 b h w k) * d (ix4 b h w k))
      (Ideal.ofBits .f32 0x46800000#32) := by
  pointwise [meanR]
  rw [Ideal.hostReduceAdd_total _ (fun b => b.elim0), zero_add]
  congr 1
  exact sum_idx4 _

/-- The mean over 16384 entries and a quarter of it, as one scaling. -/
theorem scale (S : EReal) :
    Ideal.div S (Ideal.ofBits .f32 0x46800000#32) + Ideal.ofBits .f32 0x3E800000#32 * Ideal.div S (Ideal.ofBits .f32 0x46800000#32)
      = S * Ideal.ofBits .f32 0x38A00000#32 := by
  have e1 : Ideal.ofBits .f32 0x46800000#32 = ((16384 : ℝ) : EReal) := by
    simp [Ideal.ofBits, Ideal.ieee]
    rw [← EReal.coe_mul]
    norm_num
  have e2 : Ideal.ofBits .f32 0x3E800000#32 = ((1 / 4 : ℝ) : EReal) := by
    simp [Ideal.ofBits, Ideal.ieee]
    rw [← EReal.coe_mul]
    norm_num
  have e3 : Ideal.ofBits .f32 0x38A00000#32 = ((5 / 65536 : ℝ) : EReal) := by
    simp [Ideal.ofBits, Ideal.ieee]
    rw [← EReal.coe_mul]
    norm_num
  rw [e1, e2, e3]
  have n : ((16384 : ℝ) : EReal) ≠ 0 := by
    intro h
    have := EReal.coe_eq_zero.1 h
    norm_num at this
  unfold Ideal.div
  rw [if_neg n]
  have e4 : ((16384 : ℝ) : EReal)⁻¹ = ((1 / 16384 : ℝ) : EReal) := by
    rw [← EReal.coe_inv]; norm_num
  rw [e4]
  induction S with
  | bot =>
    rw [EReal.bot_mul_coe_of_pos (by norm_num), EReal.bot_mul_coe_of_pos (by norm_num), EReal.coe_mul_bot_of_pos (by norm_num)]
    rfl
  | top =>
    rw [EReal.top_mul_coe_of_pos (by norm_num), EReal.top_mul_coe_of_pos (by norm_num), EReal.coe_mul_top_of_pos (by norm_num)]
    rfl
  | coe r =>
    norm_cast
    ring

/-- The reference's loss: the scaled sum of the squares of the rows less the points. -/
theorem loss_at (q zp : FVec Ideal S2x16x16x32 .f32) (i : S_.Idx)  :
    lossR q zp i = (∑ b : Fin 2, ∑ h : Fin 16, ∑ w : Fin 16, ∑ k : Fin 32,
      (q (ix4 b h w k) - zp (ix4 b h w k)) * (q (ix4 b h w k) - zp (ix4 b h w k))) * Ideal.ofBits .f32 0x38A00000#32 := by
  rw [← scale]
  pointwise [lossR]
  rw [mean_at]
  rfl

end Cert.ReferenceIdeal.Hand
-- ==== Proof.Compare.lean ====
/- The two programs' results compared: at `Ideal` the kernel's three result arrays are the reference's. -/
module

public import proofs.«01_k».proof.Proof.Arrays
public import proofs.«01_k».proof.Proof.RefValue

@[expose] public section

set_option maxRecDepth 16384

noncomputable section

namespace Cert.Proof

open Idealize.ShloMosaic Idealize.ShloMosaic.TcCoe Idealize.ShloMosaic.Tactic Idealize.SL.Sem
open Cert.KernelIdeal Cert.Hand Cert.KernelIdeal.Hand Cert.ReferenceIdeal.Hand

/-! ## Entries of both programs' reshaped arrays -/

/-- The point of a row and a column. -/
def pt (h w : Fin 16) : Fin 256 := ⟨h.val * 16 + w.val, by omega⟩

/-- An entry of the reference's differences is one of the kernel's codebook less one of its columns. -/
theorem diff_at (z : FVec Ideal S2x32x16x16 .f32) (e : FVec Ideal S8192x32 .f32) (b : Fin 2) (j : Fin 8192) (h w : Fin 16) (k : Fin 32) :
    diffR z e (ix5 b j k h w) = e (ix2 j k) - zsK z (ix3 b (pt h w) k) := by
  pointwise [diffR, zsK, zpK, zpR, pt]
  congr 3
  · exact Fin.ext (by simp only; omega)
  · exact Fin.ext (by simp only; omega)

/-- The reference's distances are the kernel's. -/
theorem dist_at (z : FVec Ideal S2x32x16x16 .f32) (e : FVec Ideal S8192x32 .f32) (b : Fin 2) (j : Fin 8192) (h w : Fin 16) :
    distR z e (ix4 b j h w) = distF (etK e) (fun k => zsK z (ix3 b (pt h w) k)) j := by
  unfold distF
  simp only [show ∀ k, etK e (ix2 k j) - zsK z (ix3 b (pt h w) k) = diffR z e (ix5 b j k h w) from fun k => by
    rw [diff_at]; pointwise [etK]]
  pointwise [distR]

/-- The points the kernel quantises are the reference's. -/
theorem zn_at (z : FVec Ideal S2x32x16x16 .f32) (b : Fin 2) (h w : Fin 16) (k : Fin 32) :
    znK z (ix3 b (pt h w) k) = zpR z (ix4 b h w k) := by
  pointwise [znK, zpK, zpR, pt]

/-- Where an entry of the kernel's quantised result comes from. -/
theorem out_at (q : FVec Ideal S2x256x32 .f32) (b : Fin 2) (h w : Fin 16) (k : Fin 32) :
    outK q (ix4 b k h w) = q (ix3 b (pt h w) k) := by
  pointwise [outK, pt]

/-- Where an entry of the kernel's index result comes from. -/
theorem idx_at (i : IVec S2x256x1 32) (b : Fin 2) (h w : Fin 16) : idxK i (ix3 b h w) = i (ix3 b (pt h w) 0) := by
  pointwise [idxK, pt]

/-- The kernel's loss result is its block's one entry. -/
theorem lossK_at (l : FVec Ideal S1x1 .f32) (i : S_.Idx) : lossK l i = l (ix2 0 0) := by
  pointwise [lossK]

/-- A sum over points is one over rows and columns. -/
theorem sum_pt (f : Fin 256 → EReal) : ∑ p, f p = ∑ h : Fin 16, ∑ w : Fin 16, f (pt h w) := by
  rw [← Fintype.sum_prod_type' (f := fun h w => f (pt h w)), ← (finProdFinEquiv (m := 16) (n := 16)).sum_comp (fun p : Fin (16 * 16) => f p)]
  refine Finset.sum_congr rfl fun x _ => congrArg f (Fin.ext ?_)
  show x.2.val + 16 * x.1.val = x.1.val * 16 + x.2.val
  omega

/-! ## The kernel's blocks over its arguments -/

variable (m : (ℓ : Loc nD τ sig) → Buf (Elt Ideal) ℓ)

/-- The body's outputs of three blocks read at a batch, a point and a channel. -/
theorem body_blocks (c : Dev nD) (arg0 : Memref sig .tc .vmem S2x256x32 .f32) (harg0 : arg0.IsWhole) (arg1 : Memref sig .tc .vmem S2x256x32 .f32) (harg1 : arg1.IsWhole) (arg2 : Memref sig .tc .vmem S32x8192 .f32) (harg2 : arg2.IsWhole) (arg3 : Memref sig .tc .vmem S8192x32 .f32) (harg3 : arg3.IsWhole) (arg4 : Memref sig .tc .vmem S2x256x32 .f32) (harg4 : arg4.IsWhole) (arg5 : Memref sig .tc .vmem S2x256x1 .i32) (harg5 : arg5.IsWhole) (arg6 : Memref sig .tc .vmem S1x1 .f32) (harg6 : arg6.IsWhole)
    (zs : Vec Ideal S2x256x32 .f32) (zn : Vec Ideal S2x256x32 .f32) (et : Vec Ideal S32x8192 .f32) (e : Vec Ideal S8192x32 .f32) :
    ∃ J : Fin 2 → Fin 256 → Fin 8192,
      (∀ b p, ∃ v, IsLeast (distF et fun k => zs (ix3 b p k)) 8192 v (BitVec.ofNat 32 (J b p).val)) ∧
      (∀ b p, Gen.out0_A_5 c arg0 harg0 arg1 harg1 arg2 harg2 arg3 harg3 arg4 harg4 arg5 harg5 arg6 harg6 zs zn et e (ix3 b p 0)
        = BitVec.ofNat 32 (J b p).val) ∧
      (∀ b p k, Gen.out0_A_4 c arg0 harg0 arg1 harg1 arg2 harg2 arg3 harg3 arg4 harg4 arg5 harg5 arg6 harg6 zs zn et e (ix3 b p k)
        = zn (ix3 b p k) + (e (ix2 (J b p) k) - zn (ix3 b p k))) ∧
      Gen.out0_A_6 c arg0 harg0 arg1 harg1 arg2 harg2 arg3 harg3 arg4 harg4 arg5 harg5 arg6 harg6 zs zn et e (ix2 0 0) =
        (∑ b : Fin 2, ∑ p : Fin 256, ∑ k : Fin 32, (e (ix2 (J b p) k) - zn (ix3 b p k)) * (e (ix2 (J b p) k) - zn (ix3 b p k)))
          * Ideal.ofBits .f32 0x38A00000#32 := by
  obtain ⟨J, h1, h2, h3, h4⟩ := body_out c arg0 harg0 arg1 harg1 arg2 harg2 arg3 harg3 arg4 harg4 arg5 harg5 arg6 harg6 zs zn et e
  exact ⟨J, h1, fun b p => h2 (ix3 b p 0), fun b p k => h3 (ix3 b p k), h4⟩

/-- What the kernel's one grid point leaves, over the two arguments: there are rows `J`, the nearest to every point, such that the index block
    holds their numbers, the quantised block the points plus the rows less the points, and the loss block the scaled sum of squares. -/
theorem blocks (c : Dev nD) (z : FVec Ideal S2x32x16x16 .f32) (e : FVec Ideal S8192x32 .f32)
    (hz : m (c.tc.loc main_arg0) = z) (he : m (c.tc.loc main_arg1) = e) :
    ∃ J : Fin 2 → Fin 256 → Fin 8192,
      (∀ b p, ∃ v, IsLeast (distF (etK e) fun k => zsK z (ix3 b p k)) 8192 v (BitVec.ofNat 32 (J b p).val)) ∧
      (∀ b p, (Gen.outsAt0 m c Gen.t0_0).2.1 (ix3 b p 0) = BitVec.ofNat 32 (J b p).val) ∧
      (∀ b p k, (Gen.outsAt0 m c Gen.t0_0).1 (ix3 b p k) = znK z (ix3 b p k) + (e (ix2 (J b p) k) - znK z (ix3 b p k))) ∧
      (Gen.outsAt0 m c Gen.t0_0).2.2 (ix2 0 0) =
        (∑ b : Fin 2, ∑ p : Fin 256, ∑ k : Fin 32, (e (ix2 (J b p) k) - znK z (ix3 b p k)) * (e (ix2 (J b p) k) - znK z (ix3 b p k)))
          * Ideal.ofBits .f32 0x38A00000#32 := by
  have e0 := ((iblk_0 m c).trans (V_zs m c)).trans (congrArg zsK hz)
  have e1 := ((iblk_1 m c).trans (V_zn m c)).trans (congrArg znK hz)
  have e2 := ((iblk_2 m c).trans (V_et m c)).trans (congrArg etK he)
  have e3 := ((iblk_3 m c).trans (Gen.V_main_arg1 m c)).trans he
  unfold Gen.outsAt0
  rw [e0, e1, e2, e3]
  dsimp only
  exact body_blocks c (Gen.ms0_0 Gen.t0_0) (Gen.hs0_0 Gen.t0_0) (Gen.ms0_1 Gen.t0_0) (Gen.hs0_1 Gen.t0_0) (Gen.ms0_2 Gen.t0_0)
    (Gen.hs0_2 Gen.t0_0) (Gen.ms0_3 Gen.t0_0) (Gen.hs0_3 Gen.t0_0) (Gen.ms0_4 Gen.t0_0) (Gen.hs0_4 Gen.t0_0) (Gen.ms0_5 Gen.t0_0)
    (Gen.hs0_5 Gen.t0_0) (Gen.ms0_6 Gen.t0_0) (Gen.hs0_6 Gen.t0_0) (zsK z) (znK z) (etK e) e

/-- At `Ideal`, over the same two arguments, the kernel's three results are the reference's. -/
theorem results (c : Dev nD) (z : FVec Ideal S2x32x16x16 .f32) (e : FVec Ideal S8192x32 .f32)
    (hz : m (c.tc.loc main_arg0) = z) (he : m (c.tc.loc main_arg1) = e) :
    outR (takeR e (idxR (distR z e))) (zpR z) = outK (Gen.outsAt0 m c Gen.t0_0).1
      ∧ idxR (distR z e) = idxK (Gen.outsAt0 m c Gen.t0_0).2.1
      ∧ lossR (takeR e (idxR (distR z e))) (zpR z) = lossK (Gen.outsAt0 m c Gen.t0_0).2.2 := by
  obtain ⟨J, hJ, hi, ho, hl⟩ := blocks m c z e hz he
  have hidx : ∀ b h w, idxR (distR z e) (ix3 b h w) = BitVec.ofNat 32 (J b (pt h w)).val := fun b h w => by
    obtain ⟨v, hv⟩ := idx_least (distR z e) b h w
    simp only [dist_at] at hv
    obtain ⟨v', hv'⟩ := hJ b (pt h w)
    exact (hv.unique hv').2
  have htake : ∀ b h w k, takeR e (idxR (distR z e)) (ix4 b h w k) = e (ix2 (J b (pt h w)) k) := fun b h w k =>
    take_at e _ b h w k _ (hidx b h w)
  generalize takeR e (idxR (distR z e)) = q at htake ⊢
  generalize idxR (distR z e) = i at hidx ⊢
  generalize Gen.outsAt0 m c Gen.t0_0 = o at hi ho hl ⊢
  refine ⟨funext fun y => ?_, funext fun y => ?_, funext fun y => ?_⟩
  · obtain ⟨b, k, h, w, rfl⟩ : ∃ b k h w, y = ix4 b k h w := ⟨y 0, y 1, y 2, y 3, by funext a; fin_cases a <;> rfl⟩
    rw [out_atR, out_at, ho, htake, zn_at]
  · obtain ⟨b, h, w, rfl⟩ : ∃ b h w, y = ix3 b h w := ⟨y 0, y 1, y 2, by funext a; fin_cases a <;> rfl⟩
    rw [hidx, idx_at, hi]
  · rw [loss_at, lossK_at, hl]
    simp only [sum_pt, zn_at, htake]

/-- The value claim: at `Ideal` the kernel and the reference both run, end with equal results, all three of them, and leave their arguments. -/
theorem algebraic : Cert.algebraic_KernelIdeal_ReferenceIdeal := fun m g m' g' _ hagree =>
  ⟨fun c => outK (Gen.outsAt0 m c Gen.t0_0).1, fun c => idxK (Gen.outsAt0 m c Gen.t0_0).2.1, fun c => lossK (Gen.outsAt0 m c Gen.t0_0).2.2,
    (θ_run Cert.KernelIdeal.defs _ _).mono (fun _ h c => ⟨(h.1 c).1, (h.1 c).2.1, (h.1 c).2.2, h.2 c⟩)
      (θ_run_and (Cert.KernelIdeal.Hand.run m g) (Gen.unchanged m g)),
    (θ_run Cert.ReferenceIdeal.defs _ _).mono (fun _ h c => by
        obtain ⟨r1, r2, r3⟩ := results m c _ _ (hagree c).1.symm (hagree c).2.symm
        exact ⟨(h c).1.trans r1, (h c).2.1.trans r2, (h c).2.2.1.trans r3, (h c).2.2.2⟩)
      (Cert.ReferenceIdeal.Hand.run m' g')⟩

end Cert.Proof
-- ==== Proof.lean ====
/- The certificate's proof: the frames of the three programs, the kernel's idealisation being the kernel, and the equality
   at `Ideal` of the kernel's three results and the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Compare
public import Idealize.ShloMosaic.Adequacy
public import Idealize.ShloMosaic.Init

@[expose] public section

noncomputable section

namespace Cert.Proof

open Idealize.ShloMosaic Idealize.SL.Sem Cert.Kernel

/-- Everything the certificate claims: the three programs leave their arguments as they were and every counter at zero,
    the idealised kernel is the kernel, and over extended reals the kernel's three results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
